-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S16x2048 : Shape := ⟨2, ![16, 2048]⟩

abbrev nBuf : Space → Nat
  | .hbm => 5
  | .vmem => 8
  | .smem => 0
  | _ => 0

abbrev bufTy : (tb : Table) → Fin (tcTables nBuf tb) → BufTy
  | .hbm, ⟨0, _⟩ => ⟨S128x2048, .i32⟩
  | .hbm, ⟨1, _⟩ => ⟨S128x2048, .i1⟩
  | .hbm, ⟨2, _⟩ => ⟨S128x2048, .i32⟩
  | .hbm, ⟨3, _⟩ => ⟨S128x2048, .i32⟩
  | .hbm, ⟨4, _⟩ => ⟨S128x2048, .i32⟩
  | .local _ .vmem, ⟨0, _⟩ => ⟨S16x2048, .i32⟩
  | .local _ .vmem, ⟨1, _⟩ => ⟨S16x2048, .i32⟩
  | .local _ .vmem, ⟨2, _⟩ => ⟨S16x2048, .i32⟩
  | .local _ .vmem, ⟨3, _⟩ => ⟨S16x2048, .i32⟩
  | .local _ .vmem, ⟨4, _⟩ => ⟨S16x2048, .i32⟩
  | .local _ .vmem, ⟨5, _⟩ => ⟨S16x2048, .i32⟩
  | .local _ .vmem, ⟨6, _⟩ => ⟨S16x2048, .i32⟩
  | .local _ .vmem, ⟨7, _⟩ => ⟨S16x2048, .i32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x2048 : Shape := ⟨2, ![128, 2048]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S1x1 : Shape := ⟨2, ![1, 1]⟩
abbrev S2x1 : Shape := ⟨2, ![2, 1]⟩
abbrev S2x2 : Shape := ⟨2, ![2, 2]⟩

abbrev nBuf : Space → Nat
  | .hbm => 1848
  | .vmem => 0
  | .smem => 0
  | _ => 0

abbrev hbmTy0_0 (i : Nat) : BufTy := match i % 128 with
  | 0 => ⟨S128x2048, .i32⟩
  | 1 => ⟨S128x2048, .i1⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S4, .i64⟩
  | 17 => ⟨S_, .i64⟩
  | 18 => ⟨S4, .i64⟩
  | 19 => ⟨S4, .i64⟩
  | 20 => ⟨S_, .i64⟩
  | 21 => ⟨S4, .i64⟩
  | 22 => ⟨S4, .i64⟩
  | 23 => ⟨S4, .i32⟩
  | 24 => ⟨S4, .i32⟩
  | 25 => ⟨S_, .i32⟩
  | 26 => ⟨S_, .i32⟩
  | 27 => ⟨S_, .i32⟩
  | 28 => ⟨S4, .i32⟩
  | 29 => ⟨S4, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4, .i32⟩
  | 119 => ⟨S_, .i32⟩
  | 120 => ⟨S4, .i32⟩
  | 121 => ⟨S4, .i32⟩
  | 122 => ⟨S_, .i32⟩
  | 123 => ⟨S4, .i32⟩
  | 124 => ⟨S4, .i32⟩
  | 125 => ⟨S4, .i32⟩
  | 126 => ⟨S4, .i32⟩
  | 127 => ⟨S4, .i32⟩
  | _ => ⟨S128x2048, .i32⟩

abbrev hbmTy0_1 (i : Nat) : BufTy := match i % 128 with
  | 0 => ⟨S_, .i32⟩
  | 1 => ⟨S4, .i32⟩
  | 2 => ⟨S4, .i32⟩
  | 3 => ⟨S_, .i32⟩
  | 4 => ⟨S4, .i32⟩
  | 5 => ⟨S4, .i32⟩
  | 6 => ⟨S4, .i32⟩
  | 7 => ⟨S4, .i32⟩
  | 8 => ⟨S4, .i32⟩
  | 9 => ⟨S_, .i32⟩
  | 10 => ⟨S4, .i32⟩
  | 11 => ⟨S4, .i32⟩
  | 12 => ⟨S_, .i32⟩
  | 13 => ⟨S4, .i32⟩
  | 14 => ⟨S4, .i32⟩
  | 15 => ⟨S4, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S4x1, .i32⟩
  | 120 => ⟨S4x1, .i32⟩
  | 121 => ⟨S4x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S128x2048, .i32⟩

abbrev hbmTy0_2 (i : Nat) : BufTy := match i % 128 with
  | 0 => ⟨S1x2, .i32⟩
  | 1 => ⟨S2, .i32⟩
  | 2 => ⟨S_, .f32⟩
  | 3 => ⟨S_, .f32⟩
  | 4 => ⟨S128x2048, .f32⟩
  | 5 => ⟨S128x2048, .f32⟩
  | 6 => ⟨S128x2048, .f32⟩
  | 7 => ⟨S128x2048, .f32⟩
  | 8 => ⟨S_, .f32⟩
  | 9 => ⟨S_, .f32⟩
  | 10 => ⟨S_, .f32⟩
  | 11 => ⟨S_, .f32⟩
  | 12 => ⟨S1x1, .f32⟩
  | 13 => ⟨S1x1, .f32⟩
  | 14 => ⟨S1, .i32⟩
  | 15 => ⟨S_, .i32⟩
  | 16 => ⟨S1, .i32⟩
  | 17 => ⟨S_, .i32⟩
  | 18 => ⟨S128x2048, .i64⟩
  | 19 => ⟨S128x2048, .i64⟩
  | 20 => ⟨S_, .i64⟩
  | 21 => ⟨S128x2048, .i64⟩
  | 22 => ⟨S128x2048, .i64⟩
  | 23 => ⟨S_, .i64⟩
  | 24 => ⟨S128x2048, .i64⟩
  | 25 => ⟨S128x2048, .i64⟩
  | 26 => ⟨S128x2048, .i64⟩
  | 27 => ⟨S_, .i64⟩
  | 28 => ⟨S128x2048, .i64⟩
  | 29 => ⟨S128x2048, .i64⟩
  | 30 => ⟨S128x2048, .i32⟩
  | 31 => ⟨S128x2048, .i32⟩
  | 32 => ⟨S_, .i32⟩
  | 33 => ⟨S_, .i32⟩
  | 34 => ⟨S_, .i32⟩
  | 35 => ⟨S128x2048, .i32⟩
  | 36 => ⟨S128x2048, .i32⟩
  | 37 => ⟨S128x2048, .i32⟩
  | 38 => ⟨S128x2048, .i32⟩
  | 39 => ⟨S128x2048, .i32⟩
  | 40 => ⟨S_, .i32⟩
  | 41 => ⟨S128x2048, .i32⟩
  | 42 => ⟨S128x2048, .i32⟩
  | 43 => ⟨S_, .i32⟩
  | 44 => ⟨S128x2048, .i32⟩
  | 45 => ⟨S128x2048, .i32⟩
  | 46 => ⟨S128x2048, .i32⟩
  | 47 => ⟨S128x2048, .i32⟩
  | 48 => ⟨S128x2048, .i32⟩
  | 49 => ⟨S_, .i32⟩
  | 50 => ⟨S128x2048, .i32⟩
  | 51 => ⟨S128x2048, .i32⟩
  | 52 => ⟨S_, .i32⟩
  | 53 => ⟨S128x2048, .i32⟩
  | 54 => ⟨S128x2048, .i32⟩
  | 55 => ⟨S128x2048, .i32⟩
  | 56 => ⟨S128x2048, .i32⟩
  | 57 => ⟨S128x2048, .i32⟩
  | 58 => ⟨S_, .i32⟩
  | 59 => ⟨S128x2048, .i32⟩
  | 60 => ⟨S128x2048, .i32⟩
  | 61 => ⟨S_, .i32⟩
  | 62 => ⟨S128x2048, .i32⟩
  | 63 => ⟨S128x2048, .i32⟩
  | 64 => ⟨S128x2048, .i32⟩
  | 65 => ⟨S128x2048, .i32⟩
  | 66 => ⟨S128x2048, .i32⟩
  | 67 => ⟨S_, .i32⟩
  | 68 => ⟨S128x2048, .i32⟩
  | 69 => ⟨S128x2048, .i32⟩
  | 70 => ⟨S_, .i32⟩
  | 71 => ⟨S128x2048, .i32⟩
  | 72 => ⟨S128x2048, .i32⟩
  | 73 => ⟨S128x2048, .i32⟩
  | 74 => ⟨S128x2048, .i32⟩
  | 75 => ⟨S128x2048, .i32⟩
  | 76 => ⟨S128x2048, .i32⟩
  | 77 => ⟨S128x2048, .i32⟩
  | 78 => ⟨S128x2048, .i32⟩
  | 79 => ⟨S_, .i32⟩
  | 80 => ⟨S128x2048, .i32⟩
  | 81 => ⟨S128x2048, .i32⟩
  | 82 => ⟨S128x2048, .i32⟩
  | 83 => ⟨S_, .i32⟩
  | 84 => ⟨S128x2048, .i32⟩
  | 85 => ⟨S128x2048, .i32⟩
  | 86 => ⟨S_, .i32⟩
  | 87 => ⟨S128x2048, .i32⟩
  | 88 => ⟨S128x2048, .i32⟩
  | 89 => ⟨S128x2048, .i32⟩
  | 90 => ⟨S128x2048, .i32⟩
  | 91 => ⟨S128x2048, .i32⟩
  | 92 => ⟨S_, .i32⟩
  | 93 => ⟨S128x2048, .i32⟩
  | 94 => ⟨S128x2048, .i32⟩
  | 95 => ⟨S_, .i32⟩
  | 96 => ⟨S128x2048, .i32⟩
  | 97 => ⟨S128x2048, .i32⟩
  | 98 => ⟨S128x2048, .i32⟩
  | 99 => ⟨S128x2048, .i32⟩
  | 100 => ⟨S128x2048, .i32⟩
  | 101 => ⟨S_, .i32⟩
  | 102 => ⟨S128x2048, .i32⟩
  | 103 => ⟨S128x2048, .i32⟩
  | 104 => ⟨S_, .i32⟩
  | 105 => ⟨S128x2048, .i32⟩
  | 106 => ⟨S128x2048, .i32⟩
  | 107 => ⟨S128x2048, .i32⟩
  | 108 => ⟨S128x2048, .i32⟩
  | 109 => ⟨S128x2048, .i32⟩
  | 110 => ⟨S_, .i32⟩
  | 111 => ⟨S128x2048, .i32⟩
  | 112 => ⟨S128x2048, .i32⟩
  | 113 => ⟨S_, .i32⟩
  | 114 => ⟨S128x2048, .i32⟩
  | 115 => ⟨S128x2048, .i32⟩
  | 116 => ⟨S128x2048, .i32⟩
  | 117 => ⟨S128x2048, .i32⟩
  | 118 => ⟨S128x2048, .i32⟩
  | 119 => ⟨S128x2048, .i32⟩
  | 120 => ⟨S128x2048, .i32⟩
  | 121 => ⟨S128x2048, .i32⟩
  | 122 => ⟨S_, .i32⟩
  | 123 => ⟨S128x2048, .i32⟩
  | 124 => ⟨S128x2048, .i32⟩
  | 125 => ⟨S128x2048, .i32⟩
  | 126 => ⟨S_, .i32⟩
  | 127 => ⟨S128x2048, .i32⟩
  | _ => ⟨S128x2048, .i32⟩

abbrev hbmTy0_3 (i : Nat) : BufTy := match i % 128 with
  | 0 => ⟨S128x2048, .i32⟩
  | 1 => ⟨S_, .i32⟩
  | 2 => ⟨S128x2048, .i32⟩
  | 3 => ⟨S128x2048, .i32⟩
  | 4 => ⟨S128x2048, .i32⟩
  | 5 => ⟨S128x2048, .i32⟩
  | 6 => ⟨S128x2048, .i32⟩
  | 7 => ⟨S_, .i32⟩
  | 8 => ⟨S128x2048, .i32⟩
  | 9 => ⟨S128x2048, .i32⟩
  | 10 => ⟨S_, .i32⟩
  | 11 => ⟨S128x2048, .i32⟩
  | 12 => ⟨S128x2048, .i32⟩
  | 13 => ⟨S128x2048, .i32⟩
  | 14 => ⟨S128x2048, .i32⟩
  | 15 => ⟨S128x2048, .i32⟩
  | 16 => ⟨S_, .i32⟩
  | 17 => ⟨S128x2048, .i32⟩
  | 18 => ⟨S128x2048, .i32⟩
  | 19 => ⟨S_, .i32⟩
  | 20 => ⟨S128x2048, .i32⟩
  | 21 => ⟨S128x2048, .i32⟩
  | 22 => ⟨S128x2048, .i32⟩
  | 23 => ⟨S128x2048, .i32⟩
  | 24 => ⟨S128x2048, .i32⟩
  | 25 => ⟨S_, .i32⟩
  | 26 => ⟨S128x2048, .i32⟩
  | 27 => ⟨S128x2048, .i32⟩
  | 28 => ⟨S_, .i32⟩
  | 29 => ⟨S128x2048, .i32⟩
  | 30 => ⟨S128x2048, .i32⟩
  | 31 => ⟨S128x2048, .i32⟩
  | 32 => ⟨S128x2048, .i32⟩
  | 33 => ⟨S128x2048, .i32⟩
  | 34 => ⟨S128x2048, .i32⟩
  | 35 => ⟨S128x2048, .i32⟩
  | 36 => ⟨S128x2048, .i32⟩
  | 37 => ⟨S_, .i32⟩
  | 38 => ⟨S128x2048, .i32⟩
  | 39 => ⟨S128x2048, .i32⟩
  | 40 => ⟨S128x2048, .i32⟩
  | 41 => ⟨S_, .i32⟩
  | 42 => ⟨S128x2048, .i32⟩
  | 43 => ⟨S128x2048, .i32⟩
  | 44 => ⟨S_, .i32⟩
  | 45 => ⟨S128x2048, .i32⟩
  | 46 => ⟨S128x2048, .i32⟩
  | 47 => ⟨S128x2048, .i32⟩
  | 48 => ⟨S128x2048, .i32⟩
  | 49 => ⟨S128x2048, .i32⟩
  | 50 => ⟨S_, .i32⟩
  | 51 => ⟨S128x2048, .i32⟩
  | 52 => ⟨S128x2048, .i32⟩
  | 53 => ⟨S_, .i32⟩
  | 54 => ⟨S128x2048, .i32⟩
  | 55 => ⟨S128x2048, .i32⟩
  | 56 => ⟨S128x2048, .i32⟩
  | 57 => ⟨S128x2048, .i32⟩
  | 58 => ⟨S128x2048, .i32⟩
  | 59 => ⟨S_, .i32⟩
  | 60 => ⟨S128x2048, .i32⟩
  | 61 => ⟨S128x2048, .i32⟩
  | 62 => ⟨S_, .i32⟩
  | 63 => ⟨S128x2048, .i32⟩
  | 64 => ⟨S128x2048, .i32⟩
  | 65 => ⟨S128x2048, .i32⟩
  | 66 => ⟨S128x2048, .i32⟩
  | 67 => ⟨S128x2048, .i32⟩
  | 68 => ⟨S_, .i32⟩
  | 69 => ⟨S128x2048, .i32⟩
  | 70 => ⟨S128x2048, .i32⟩
  | 71 => ⟨S_, .i32⟩
  | 72 => ⟨S128x2048, .i32⟩
  | 73 => ⟨S128x2048, .i32⟩
  | 74 => ⟨S128x2048, .i32⟩
  | 75 => ⟨S128x2048, .i32⟩
  | 76 => ⟨S128x2048, .i32⟩
  | 77 => ⟨S128x2048, .i32⟩
  | 78 => ⟨S128x2048, .i32⟩
  | 79 => ⟨S128x2048, .i32⟩
  | 80 => ⟨S_, .i32⟩
  | 81 => ⟨S128x2048, .i32⟩
  | 82 => ⟨S128x2048, .i32⟩
  | 83 => ⟨S128x2048, .i32⟩
  | 84 => ⟨S_, .i32⟩
  | 85 => ⟨S128x2048, .i32⟩
  | 86 => ⟨S128x2048, .i32⟩
  | 87 => ⟨S_, .i32⟩
  | 88 => ⟨S128x2048, .i32⟩
  | 89 => ⟨S128x2048, .i32⟩
  | 90 => ⟨S128x2048, .i32⟩
  | 91 => ⟨S128x2048, .i32⟩
  | 92 => ⟨S128x2048, .i32⟩
  | 93 => ⟨S_, .i32⟩
  | 94 => ⟨S128x2048, .i32⟩
  | 95 => ⟨S128x2048, .i32⟩
  | 96 => ⟨S_, .i32⟩
  | 97 => ⟨S128x2048, .i32⟩
  | 98 => ⟨S128x2048, .i32⟩
  | 99 => ⟨S128x2048, .i32⟩
  | 100 => ⟨S128x2048, .i32⟩
  | 101 => ⟨S128x2048, .i32⟩
  | 102 => ⟨S_, .i32⟩
  | 103 => ⟨S128x2048, .i32⟩
  | 104 => ⟨S128x2048, .i32⟩
  | 105 => ⟨S_, .i32⟩
  | 106 => ⟨S128x2048, .i32⟩
  | 107 => ⟨S128x2048, .i32⟩
  | 108 => ⟨S128x2048, .i32⟩
  | 109 => ⟨S128x2048, .i32⟩
  | 110 => ⟨S128x2048, .i32⟩
  | 111 => ⟨S_, .i32⟩
  | 112 => ⟨S128x2048, .i32⟩
  | 113 => ⟨S128x2048, .i32⟩
  | 114 => ⟨S_, .i32⟩
  | 115 => ⟨S128x2048, .i32⟩
  | 116 => ⟨S128x2048, .i32⟩
  | 117 => ⟨S128x2048, .i32⟩
  | 118 => ⟨S128x2048, .i32⟩
  | 119 => ⟨S128x2048, .i32⟩
  | 120 => ⟨S128x2048, .i32⟩
  | 121 => ⟨S128x2048, .i32⟩
  | 122 => ⟨S128x2048, .i32⟩
  | 123 => ⟨S_, .i32⟩
  | 124 => ⟨S128x2048, .i32⟩
  | 125 => ⟨S128x2048, .i32⟩
  | 126 => ⟨S128x2048, .i32⟩
  | 127 => ⟨S_, .i32⟩
  | _ => ⟨S128x2048, .i32⟩

abbrev hbmTy0_4 (i : Nat) : BufTy := match i % 128 with
  | 0 => ⟨S128x2048, .i32⟩
  | 1 => ⟨S128x2048, .i32⟩
  | 2 => ⟨S_, .i32⟩
  | 3 => ⟨S128x2048, .i32⟩
  | 4 => ⟨S128x2048, .i32⟩
  | 5 => ⟨S128x2048, .f32⟩
  | 6 => ⟨S_, .f32⟩
  | 7 => ⟨S128x2048, .f32⟩
  | 8 => ⟨S128x2048, .f32⟩
  | 9 => ⟨S1x1, .f32⟩
  | 10 => ⟨S128x2048, .f32⟩
  | 11 => ⟨S128x2048, .f32⟩
  | 12 => ⟨S128x2048, .f32⟩
  | 13 => ⟨S128x2048, .f32⟩
  | 14 => ⟨S128x2048, .f32⟩
  | 15 => ⟨S128x2048, .f32⟩
  | 16 => ⟨S128x2048, .i1⟩
  | 17 => ⟨S_, .i32⟩
  | 18 => ⟨S128x2048, .i32⟩
  | 19 => ⟨S128x2048, .i32⟩
  | 20 => ⟨S_, .f32⟩
  | 21 => ⟨S_, .f32⟩
  | 22 => ⟨S_, .f32⟩
  | 23 => ⟨S_, .f32⟩
  | 24 => ⟨S_, .f32⟩
  | 25 => ⟨S1x1, .f32⟩
  | 26 => ⟨S1x1, .f32⟩
  | 27 => ⟨S1, .i32⟩
  | 28 => ⟨S_, .i32⟩
  | 29 => ⟨S1, .i32⟩
  | 30 => ⟨S_, .i32⟩
  | 31 => ⟨S128x2048, .i64⟩
  | 32 => ⟨S128x2048, .i64⟩
  | 33 => ⟨S_, .i64⟩
  | 34 => ⟨S128x2048, .i64⟩
  | 35 => ⟨S128x2048, .i64⟩
  | 36 => ⟨S_, .i64⟩
  | 37 => ⟨S128x2048, .i64⟩
  | 38 => ⟨S128x2048, .i64⟩
  | 39 => ⟨S128x2048, .i64⟩
  | 40 => ⟨S_, .i64⟩
  | 41 => ⟨S128x2048, .i64⟩
  | 42 => ⟨S128x2048, .i64⟩
  | 43 => ⟨S128x2048, .i32⟩
  | 44 => ⟨S128x2048, .i32⟩
  | 45 => ⟨S_, .i32⟩
  | 46 => ⟨S_, .i32⟩
  | 47 => ⟨S_, .i32⟩
  | 48 => ⟨S128x2048, .i32⟩
  | 49 => ⟨S128x2048, .i32⟩
  | 50 => ⟨S128x2048, .i32⟩
  | 51 => ⟨S128x2048, .i32⟩
  | 52 => ⟨S128x2048, .i32⟩
  | 53 => ⟨S_, .i32⟩
  | 54 => ⟨S128x2048, .i32⟩
  | 55 => ⟨S128x2048, .i32⟩
  | 56 => ⟨S_, .i32⟩
  | 57 => ⟨S128x2048, .i32⟩
  | 58 => ⟨S128x2048, .i32⟩
  | 59 => ⟨S128x2048, .i32⟩
  | 60 => ⟨S128x2048, .i32⟩
  | 61 => ⟨S128x2048, .i32⟩
  | 62 => ⟨S_, .i32⟩
  | 63 => ⟨S128x2048, .i32⟩
  | 64 => ⟨S128x2048, .i32⟩
  | 65 => ⟨S_, .i32⟩
  | 66 => ⟨S128x2048, .i32⟩
  | 67 => ⟨S128x2048, .i32⟩
  | 68 => ⟨S128x2048, .i32⟩
  | 69 => ⟨S128x2048, .i32⟩
  | 70 => ⟨S128x2048, .i32⟩
  | 71 => ⟨S_, .i32⟩
  | 72 => ⟨S128x2048, .i32⟩
  | 73 => ⟨S128x2048, .i32⟩
  | 74 => ⟨S_, .i32⟩
  | 75 => ⟨S128x2048, .i32⟩
  | 76 => ⟨S128x2048, .i32⟩
  | 77 => ⟨S128x2048, .i32⟩
  | 78 => ⟨S128x2048, .i32⟩
  | 79 => ⟨S128x2048, .i32⟩
  | 80 => ⟨S_, .i32⟩
  | 81 => ⟨S128x2048, .i32⟩
  | 82 => ⟨S128x2048, .i32⟩
  | 83 => ⟨S_, .i32⟩
  | 84 => ⟨S128x2048, .i32⟩
  | 85 => ⟨S128x2048, .i32⟩
  | 86 => ⟨S128x2048, .i32⟩
  | 87 => ⟨S128x2048, .i32⟩
  | 88 => ⟨S128x2048, .i32⟩
  | 89 => ⟨S128x2048, .i32⟩
  | 90 => ⟨S128x2048, .i32⟩
  | 91 => ⟨S128x2048, .i32⟩
  | 92 => ⟨S_, .i32⟩
  | 93 => ⟨S128x2048, .i32⟩
  | 94 => ⟨S128x2048, .i32⟩
  | 95 => ⟨S128x2048, .i32⟩
  | 96 => ⟨S_, .i32⟩
  | 97 => ⟨S128x2048, .i32⟩
  | 98 => ⟨S128x2048, .i32⟩
  | 99 => ⟨S_, .i32⟩
  | 100 => ⟨S128x2048, .i32⟩
  | 101 => ⟨S128x2048, .i32⟩
  | 102 => ⟨S128x2048, .i32⟩
  | 103 => ⟨S128x2048, .i32⟩
  | 104 => ⟨S128x2048, .i32⟩
  | 105 => ⟨S_, .i32⟩
  | 106 => ⟨S128x2048, .i32⟩
  | 107 => ⟨S128x2048, .i32⟩
  | 108 => ⟨S_, .i32⟩
  | 109 => ⟨S128x2048, .i32⟩
  | 110 => ⟨S128x2048, .i32⟩
  | 111 => ⟨S128x2048, .i32⟩
  | 112 => ⟨S128x2048, .i32⟩
  | 113 => ⟨S128x2048, .i32⟩
  | 114 => ⟨S_, .i32⟩
  | 115 => ⟨S128x2048, .i32⟩
  | 116 => ⟨S128x2048, .i32⟩
  | 117 => ⟨S_, .i32⟩
  | 118 => ⟨S128x2048, .i32⟩
  | 119 => ⟨S128x2048, .i32⟩
  | 120 => ⟨S128x2048, .i32⟩
  | 121 => ⟨S128x2048, .i32⟩
  | 122 => ⟨S128x2048, .i32⟩
  | 123 => ⟨S_, .i32⟩
  | 124 => ⟨S128x2048, .i32⟩
  | 125 => ⟨S128x2048, .i32⟩
  | 126 => ⟨S_, .i32⟩
  | 127 => ⟨S128x2048, .i32⟩
  | _ => ⟨S128x2048, .i32⟩

abbrev hbmTy0_5 (i : Nat) : BufTy := match i % 128 with
  | 0 => ⟨S128x2048, .i32⟩
  | 1 => ⟨S128x2048, .i32⟩
  | 2 => ⟨S128x2048, .i32⟩
  | 3 => ⟨S128x2048, .i32⟩
  | 4 => ⟨S128x2048, .i32⟩
  | 5 => ⟨S128x2048, .i32⟩
  | 6 => ⟨S128x2048, .i32⟩
  | 7 => ⟨S_, .i32⟩
  | 8 => ⟨S128x2048, .i32⟩
  | 9 => ⟨S128x2048, .i32⟩
  | 10 => ⟨S128x2048, .i32⟩
  | 11 => ⟨S_, .i32⟩
  | 12 => ⟨S128x2048, .i32⟩
  | 13 => ⟨S128x2048, .i32⟩
  | 14 => ⟨S_, .i32⟩
  | 15 => ⟨S128x2048, .i32⟩
  | 16 => ⟨S128x2048, .i32⟩
  | 17 => ⟨S128x2048, .i32⟩
  | 18 => ⟨S128x2048, .i32⟩
  | 19 => ⟨S128x2048, .i32⟩
  | 20 => ⟨S_, .i32⟩
  | 21 => ⟨S128x2048, .i32⟩
  | 22 => ⟨S128x2048, .i32⟩
  | 23 => ⟨S_, .i32⟩
  | 24 => ⟨S128x2048, .i32⟩
  | 25 => ⟨S128x2048, .i32⟩
  | 26 => ⟨S128x2048, .i32⟩
  | 27 => ⟨S128x2048, .i32⟩
  | 28 => ⟨S128x2048, .i32⟩
  | 29 => ⟨S_, .i32⟩
  | 30 => ⟨S128x2048, .i32⟩
  | 31 => ⟨S128x2048, .i32⟩
  | 32 => ⟨S_, .i32⟩
  | 33 => ⟨S128x2048, .i32⟩
  | 34 => ⟨S128x2048, .i32⟩
  | 35 => ⟨S128x2048, .i32⟩
  | 36 => ⟨S128x2048, .i32⟩
  | 37 => ⟨S128x2048, .i32⟩
  | 38 => ⟨S_, .i32⟩
  | 39 => ⟨S128x2048, .i32⟩
  | 40 => ⟨S128x2048, .i32⟩
  | 41 => ⟨S_, .i32⟩
  | 42 => ⟨S128x2048, .i32⟩
  | 43 => ⟨S128x2048, .i32⟩
  | 44 => ⟨S128x2048, .i32⟩
  | 45 => ⟨S128x2048, .i32⟩
  | 46 => ⟨S128x2048, .i32⟩
  | 47 => ⟨S128x2048, .i32⟩
  | 48 => ⟨S128x2048, .i32⟩
  | 49 => ⟨S128x2048, .i32⟩
  | 50 => ⟨S_, .i32⟩
  | 51 => ⟨S128x2048, .i32⟩
  | 52 => ⟨S128x2048, .i32⟩
  | 53 => ⟨S128x2048, .i32⟩
  | 54 => ⟨S_, .i32⟩
  | 55 => ⟨S128x2048, .i32⟩
  | 56 => ⟨S128x2048, .i32⟩
  | 57 => ⟨S_, .i32⟩
  | 58 => ⟨S128x2048, .i32⟩
  | 59 => ⟨S128x2048, .i32⟩
  | 60 => ⟨S128x2048, .i32⟩
  | 61 => ⟨S128x2048, .i32⟩
  | 62 => ⟨S128x2048, .i32⟩
  | 63 => ⟨S_, .i32⟩
  | 64 => ⟨S128x2048, .i32⟩
  | 65 => ⟨S128x2048, .i32⟩
  | 66 => ⟨S_, .i32⟩
  | 67 => ⟨S128x2048, .i32⟩
  | 68 => ⟨S128x2048, .i32⟩
  | 69 => ⟨S128x2048, .i32⟩
  | 70 => ⟨S128x2048, .i32⟩
  | 71 => ⟨S128x2048, .i32⟩
  | 72 => ⟨S_, .i32⟩
  | 73 => ⟨S128x2048, .i32⟩
  | 74 => ⟨S128x2048, .i32⟩
  | 75 => ⟨S_, .i32⟩
  | 76 => ⟨S128x2048, .i32⟩
  | 77 => ⟨S128x2048, .i32⟩
  | 78 => ⟨S128x2048, .i32⟩
  | 79 => ⟨S128x2048, .i32⟩
  | 80 => ⟨S128x2048, .i32⟩
  | 81 => ⟨S_, .i32⟩
  | 82 => ⟨S128x2048, .i32⟩
  | 83 => ⟨S128x2048, .i32⟩
  | 84 => ⟨S_, .i32⟩
  | 85 => ⟨S128x2048, .i32⟩
  | 86 => ⟨S128x2048, .i32⟩
  | 87 => ⟨S128x2048, .i32⟩
  | 88 => ⟨S128x2048, .i32⟩
  | 89 => ⟨S128x2048, .i32⟩
  | 90 => ⟨S128x2048, .i32⟩
  | 91 => ⟨S128x2048, .i32⟩
  | 92 => ⟨S128x2048, .i32⟩
  | 93 => ⟨S_, .i32⟩
  | 94 => ⟨S128x2048, .i32⟩
  | 95 => ⟨S128x2048, .i32⟩
  | 96 => ⟨S128x2048, .i32⟩
  | 97 => ⟨S_, .i32⟩
  | 98 => ⟨S128x2048, .i32⟩
  | 99 => ⟨S128x2048, .i32⟩
  | 100 => ⟨S_, .i32⟩
  | 101 => ⟨S128x2048, .i32⟩
  | 102 => ⟨S128x2048, .i32⟩
  | 103 => ⟨S128x2048, .i32⟩
  | 104 => ⟨S128x2048, .i32⟩
  | 105 => ⟨S128x2048, .i32⟩
  | 106 => ⟨S_, .i32⟩
  | 107 => ⟨S128x2048, .i32⟩
  | 108 => ⟨S128x2048, .i32⟩
  | 109 => ⟨S_, .i32⟩
  | 110 => ⟨S128x2048, .i32⟩
  | 111 => ⟨S128x2048, .i32⟩
  | 112 => ⟨S128x2048, .i32⟩
  | 113 => ⟨S128x2048, .i32⟩
  | 114 => ⟨S128x2048, .i32⟩
  | 115 => ⟨S_, .i32⟩
  | 116 => ⟨S128x2048, .i32⟩
  | 117 => ⟨S128x2048, .i32⟩
  | 118 => ⟨S_, .i32⟩
  | 119 => ⟨S128x2048, .i32⟩
  | 120 => ⟨S128x2048, .i32⟩
  | 121 => ⟨S128x2048, .i32⟩
  | 122 => ⟨S128x2048, .i32⟩
  | 123 => ⟨S128x2048, .i32⟩
  | 124 => ⟨S_, .i32⟩
  | 125 => ⟨S128x2048, .i32⟩
  | 126 => ⟨S128x2048, .i32⟩
  | 127 => ⟨S_, .i32⟩
  | _ => ⟨S128x2048, .i32⟩

abbrev hbmTy0_6 (i : Nat) : BufTy := match i % 128 with
  | 0 => ⟨S128x2048, .i32⟩
  | 1 => ⟨S128x2048, .i32⟩
  | 2 => ⟨S128x2048, .i32⟩
  | 3 => ⟨S128x2048, .i32⟩
  | 4 => ⟨S128x2048, .i32⟩
  | 5 => ⟨S128x2048, .i32⟩
  | 6 => ⟨S128x2048, .i32⟩
  | 7 => ⟨S128x2048, .i32⟩
  | 8 => ⟨S_, .i32⟩
  | 9 => ⟨S128x2048, .i32⟩
  | 10 => ⟨S128x2048, .i32⟩
  | 11 => ⟨S128x2048, .i32⟩
  | 12 => ⟨S_, .i32⟩
  | 13 => ⟨S128x2048, .i32⟩
  | 14 => ⟨S128x2048, .i32⟩
  | 15 => ⟨S_, .i32⟩
  | 16 => ⟨S128x2048, .i32⟩
  | 17 => ⟨S128x2048, .i32⟩
  | 18 => ⟨S128x2048, .f32⟩
  | 19 => ⟨S_, .f32⟩
  | 20 => ⟨S128x2048, .f32⟩
  | 21 => ⟨S128x2048, .f32⟩
  | 22 => ⟨S1x1, .f32⟩
  | 23 => ⟨S128x2048, .f32⟩
  | 24 => ⟨S128x2048, .f32⟩
  | 25 => ⟨S128x2048, .f32⟩
  | 26 => ⟨S128x2048, .f32⟩
  | 27 => ⟨S128x2048, .f32⟩
  | 28 => ⟨S128x2048, .f32⟩
  | 29 => ⟨S128x2048, .f32⟩
  | 30 => ⟨S128x2048, .i1⟩
  | 31 => ⟨S128x2048, .i1⟩
  | 32 => ⟨S_, .i32⟩
  | 33 => ⟨S128x2048, .i32⟩
  | 34 => ⟨S128x2048, .i32⟩
  | 35 => ⟨S_, .f32⟩
  | 36 => ⟨S_, .f32⟩
  | 37 => ⟨S_, .f32⟩
  | 38 => ⟨S_, .f32⟩
  | 39 => ⟨S_, .f32⟩
  | 40 => ⟨S1x1, .f32⟩
  | 41 => ⟨S1x1, .f32⟩
  | 42 => ⟨S1, .i32⟩
  | 43 => ⟨S_, .i32⟩
  | 44 => ⟨S1, .i32⟩
  | 45 => ⟨S_, .i32⟩
  | 46 => ⟨S128x2048, .i64⟩
  | 47 => ⟨S128x2048, .i64⟩
  | 48 => ⟨S_, .i64⟩
  | 49 => ⟨S128x2048, .i64⟩
  | 50 => ⟨S128x2048, .i64⟩
  | 51 => ⟨S_, .i64⟩
  | 52 => ⟨S128x2048, .i64⟩
  | 53 => ⟨S128x2048, .i64⟩
  | 54 => ⟨S128x2048, .i64⟩
  | 55 => ⟨S_, .i64⟩
  | 56 => ⟨S128x2048, .i64⟩
  | 57 => ⟨S128x2048, .i64⟩
  | 58 => ⟨S128x2048, .i32⟩
  | 59 => ⟨S128x2048, .i32⟩
  | 60 => ⟨S_, .i32⟩
  | 61 => ⟨S_, .i32⟩
  | 62 => ⟨S_, .i32⟩
  | 63 => ⟨S128x2048, .i32⟩
  | 64 => ⟨S128x2048, .i32⟩
  | 65 => ⟨S128x2048, .i32⟩
  | 66 => ⟨S128x2048, .i32⟩
  | 67 => ⟨S128x2048, .i32⟩
  | 68 => ⟨S_, .i32⟩
  | 69 => ⟨S128x2048, .i32⟩
  | 70 => ⟨S128x2048, .i32⟩
  | 71 => ⟨S_, .i32⟩
  | 72 => ⟨S128x2048, .i32⟩
  | 73 => ⟨S128x2048, .i32⟩
  | 74 => ⟨S128x2048, .i32⟩
  | 75 => ⟨S128x2048, .i32⟩
  | 76 => ⟨S128x2048, .i32⟩
  | 77 => ⟨S_, .i32⟩
  | 78 => ⟨S128x2048, .i32⟩
  | 79 => ⟨S128x2048, .i32⟩
  | 80 => ⟨S_, .i32⟩
  | 81 => ⟨S128x2048, .i32⟩
  | 82 => ⟨S128x2048, .i32⟩
  | 83 => ⟨S128x2048, .i32⟩
  | 84 => ⟨S128x2048, .i32⟩
  | 85 => ⟨S128x2048, .i32⟩
  | 86 => ⟨S_, .i32⟩
  | 87 => ⟨S128x2048, .i32⟩
  | 88 => ⟨S128x2048, .i32⟩
  | 89 => ⟨S_, .i32⟩
  | 90 => ⟨S128x2048, .i32⟩
  | 91 => ⟨S128x2048, .i32⟩
  | 92 => ⟨S128x2048, .i32⟩
  | 93 => ⟨S128x2048, .i32⟩
  | 94 => ⟨S128x2048, .i32⟩
  | 95 => ⟨S_, .i32⟩
  | 96 => ⟨S128x2048, .i32⟩
  | 97 => ⟨S128x2048, .i32⟩
  | 98 => ⟨S_, .i32⟩
  | 99 => ⟨S128x2048, .i32⟩
  | 100 => ⟨S128x2048, .i32⟩
  | 101 => ⟨S128x2048, .i32⟩
  | 102 => ⟨S128x2048, .i32⟩
  | 103 => ⟨S128x2048, .i32⟩
  | 104 => ⟨S128x2048, .i32⟩
  | 105 => ⟨S128x2048, .i32⟩
  | 106 => ⟨S128x2048, .i32⟩
  | 107 => ⟨S_, .i32⟩
  | 108 => ⟨S128x2048, .i32⟩
  | 109 => ⟨S128x2048, .i32⟩
  | 110 => ⟨S128x2048, .i32⟩
  | 111 => ⟨S_, .i32⟩
  | 112 => ⟨S128x2048, .i32⟩
  | 113 => ⟨S128x2048, .i32⟩
  | 114 => ⟨S_, .i32⟩
  | 115 => ⟨S128x2048, .i32⟩
  | 116 => ⟨S128x2048, .i32⟩
  | 117 => ⟨S128x2048, .i32⟩
  | 118 => ⟨S128x2048, .i32⟩
  | 119 => ⟨S128x2048, .i32⟩
  | 120 => ⟨S_, .i32⟩
  | 121 => ⟨S128x2048, .i32⟩
  | 122 => ⟨S128x2048, .i32⟩
  | 123 => ⟨S_, .i32⟩
  | 124 => ⟨S128x2048, .i32⟩
  | 125 => ⟨S128x2048, .i32⟩
  | 126 => ⟨S128x2048, .i32⟩
  | 127 => ⟨S128x2048, .i32⟩
  | _ => ⟨S128x2048, .i32⟩

abbrev hbmTy0_7 (i : Nat) : BufTy := match i % 128 with
  | 0 => ⟨S128x2048, .i32⟩
  | 1 => ⟨S_, .i32⟩
  | 2 => ⟨S128x2048, .i32⟩
  | 3 => ⟨S128x2048, .i32⟩
  | 4 => ⟨S_, .i32⟩
  | 5 => ⟨S128x2048, .i32⟩
  | 6 => ⟨S128x2048, .i32⟩
  | 7 => ⟨S128x2048, .i32⟩
  | 8 => ⟨S128x2048, .i32⟩
  | 9 => ⟨S128x2048, .i32⟩
  | 10 => ⟨S_, .i32⟩
  | 11 => ⟨S128x2048, .i32⟩
  | 12 => ⟨S128x2048, .i32⟩
  | 13 => ⟨S_, .i32⟩
  | 14 => ⟨S128x2048, .i32⟩
  | 15 => ⟨S128x2048, .i32⟩
  | 16 => ⟨S128x2048, .i32⟩
  | 17 => ⟨S128x2048, .i32⟩
  | 18 => ⟨S128x2048, .i32⟩
  | 19 => ⟨S128x2048, .i32⟩
  | 20 => ⟨S128x2048, .i32⟩
  | 21 => ⟨S128x2048, .i32⟩
  | 22 => ⟨S_, .i32⟩
  | 23 => ⟨S128x2048, .i32⟩
  | 24 => ⟨S128x2048, .i32⟩
  | 25 => ⟨S128x2048, .i32⟩
  | 26 => ⟨S_, .i32⟩
  | 27 => ⟨S128x2048, .i32⟩
  | 28 => ⟨S128x2048, .i32⟩
  | 29 => ⟨S_, .i32⟩
  | 30 => ⟨S128x2048, .i32⟩
  | 31 => ⟨S128x2048, .i32⟩
  | 32 => ⟨S128x2048, .i32⟩
  | 33 => ⟨S128x2048, .i32⟩
  | 34 => ⟨S128x2048, .i32⟩
  | 35 => ⟨S_, .i32⟩
  | 36 => ⟨S128x2048, .i32⟩
  | 37 => ⟨S128x2048, .i32⟩
  | 38 => ⟨S_, .i32⟩
  | 39 => ⟨S128x2048, .i32⟩
  | 40 => ⟨S128x2048, .i32⟩
  | 41 => ⟨S128x2048, .i32⟩
  | 42 => ⟨S128x2048, .i32⟩
  | 43 => ⟨S128x2048, .i32⟩
  | 44 => ⟨S_, .i32⟩
  | 45 => ⟨S128x2048, .i32⟩
  | 46 => ⟨S128x2048, .i32⟩
  | 47 => ⟨S_, .i32⟩
  | 48 => ⟨S128x2048, .i32⟩
  | 49 => ⟨S128x2048, .i32⟩
  | 50 => ⟨S128x2048, .i32⟩
  | 51 => ⟨S128x2048, .i32⟩
  | 52 => ⟨S128x2048, .i32⟩
  | 53 => ⟨S_, .i32⟩
  | 54 => ⟨S128x2048, .i32⟩
  | 55 => ⟨S128x2048, .i32⟩
  | 56 => ⟨S_, .i32⟩
  | 57 => ⟨S128x2048, .i32⟩
  | 58 => ⟨S128x2048, .i32⟩
  | 59 => ⟨S128x2048, .i32⟩
  | 60 => ⟨S128x2048, .i32⟩
  | 61 => ⟨S128x2048, .i32⟩
  | 62 => ⟨S128x2048, .i32⟩
  | 63 => ⟨S128x2048, .i32⟩
  | 64 => ⟨S128x2048, .i32⟩
  | 65 => ⟨S_, .i32⟩
  | 66 => ⟨S128x2048, .i32⟩
  | 67 => ⟨S128x2048, .i32⟩
  | 68 => ⟨S128x2048, .i32⟩
  | 69 => ⟨S_, .i32⟩
  | 70 => ⟨S128x2048, .i32⟩
  | 71 => ⟨S128x2048, .i32⟩
  | 72 => ⟨S_, .i32⟩
  | 73 => ⟨S128x2048, .i32⟩
  | 74 => ⟨S128x2048, .i32⟩
  | 75 => ⟨S128x2048, .i32⟩
  | 76 => ⟨S128x2048, .i32⟩
  | 77 => ⟨S128x2048, .i32⟩
  | 78 => ⟨S_, .i32⟩
  | 79 => ⟨S128x2048, .i32⟩
  | 80 => ⟨S128x2048, .i32⟩
  | 81 => ⟨S_, .i32⟩
  | 82 => ⟨S128x2048, .i32⟩
  | 83 => ⟨S128x2048, .i32⟩
  | 84 => ⟨S128x2048, .i32⟩
  | 85 => ⟨S128x2048, .i32⟩
  | 86 => ⟨S128x2048, .i32⟩
  | 87 => ⟨S_, .i32⟩
  | 88 => ⟨S128x2048, .i32⟩
  | 89 => ⟨S128x2048, .i32⟩
  | 90 => ⟨S_, .i32⟩
  | 91 => ⟨S128x2048, .i32⟩
  | 92 => ⟨S128x2048, .i32⟩
  | 93 => ⟨S128x2048, .i32⟩
  | 94 => ⟨S128x2048, .i32⟩
  | 95 => ⟨S128x2048, .i32⟩
  | 96 => ⟨S_, .i32⟩
  | 97 => ⟨S128x2048, .i32⟩
  | 98 => ⟨S128x2048, .i32⟩
  | 99 => ⟨S_, .i32⟩
  | 100 => ⟨S128x2048, .i32⟩
  | 101 => ⟨S128x2048, .i32⟩
  | 102 => ⟨S128x2048, .i32⟩
  | 103 => ⟨S128x2048, .i32⟩
  | 104 => ⟨S128x2048, .i32⟩
  | 105 => ⟨S128x2048, .i32⟩
  | 106 => ⟨S128x2048, .i32⟩
  | 107 => ⟨S128x2048, .i32⟩
  | 108 => ⟨S_, .i32⟩
  | 109 => ⟨S128x2048, .i32⟩
  | 110 => ⟨S128x2048, .i32⟩
  | 111 => ⟨S128x2048, .i32⟩
  | 112 => ⟨S_, .i32⟩
  | 113 => ⟨S128x2048, .i32⟩
  | 114 => ⟨S128x2048, .i32⟩
  | 115 => ⟨S_, .i32⟩
  | 116 => ⟨S128x2048, .i32⟩
  | 117 => ⟨S128x2048, .i32⟩
  | 118 => ⟨S128x2048, .i32⟩
  | 119 => ⟨S128x2048, .i32⟩
  | 120 => ⟨S128x2048, .i32⟩
  | 121 => ⟨S_, .i32⟩
  | 122 => ⟨S128x2048, .i32⟩
  | 123 => ⟨S128x2048, .i32⟩
  | 124 => ⟨S_, .i32⟩
  | 125 => ⟨S128x2048, .i32⟩
  | 126 => ⟨S128x2048, .i32⟩
  | 127 => ⟨S128x2048, .i32⟩
  | _ => ⟨S128x2048, .i32⟩

abbrev hbmTy0_8 (i : Nat) : BufTy := match i % 128 with
  | 0 => ⟨S128x2048, .i32⟩
  | 1 => ⟨S128x2048, .i32⟩
  | 2 => ⟨S_, .i32⟩
  | 3 => ⟨S128x2048, .i32⟩
  | 4 => ⟨S128x2048, .i32⟩
  | 5 => ⟨S_, .i32⟩
  | 6 => ⟨S128x2048, .i32⟩
  | 7 => ⟨S128x2048, .i32⟩
  | 8 => ⟨S128x2048, .i32⟩
  | 9 => ⟨S128x2048, .i32⟩
  | 10 => ⟨S128x2048, .i32⟩
  | 11 => ⟨S_, .i32⟩
  | 12 => ⟨S128x2048, .i32⟩
  | 13 => ⟨S128x2048, .i32⟩
  | 14 => ⟨S_, .i32⟩
  | 15 => ⟨S128x2048, .i32⟩
  | 16 => ⟨S128x2048, .i32⟩
  | 17 => ⟨S128x2048, .i32⟩
  | 18 => ⟨S128x2048, .i32⟩
  | 19 => ⟨S128x2048, .i32⟩
  | 20 => ⟨S128x2048, .i32⟩
  | 21 => ⟨S128x2048, .i32⟩
  | 22 => ⟨S128x2048, .i32⟩
  | 23 => ⟨S_, .i32⟩
  | 24 => ⟨S128x2048, .i32⟩
  | 25 => ⟨S128x2048, .i32⟩
  | 26 => ⟨S128x2048, .i32⟩
  | 27 => ⟨S_, .i32⟩
  | 28 => ⟨S128x2048, .i32⟩
  | 29 => ⟨S128x2048, .i32⟩
  | 30 => ⟨S_, .i32⟩
  | 31 => ⟨S128x2048, .i32⟩
  | 32 => ⟨S128x2048, .i32⟩
  | 33 => ⟨S128x2048, .f32⟩
  | 34 => ⟨S_, .f32⟩
  | 35 => ⟨S128x2048, .f32⟩
  | 36 => ⟨S128x2048, .f32⟩
  | 37 => ⟨S1x1, .f32⟩
  | 38 => ⟨S128x2048, .f32⟩
  | 39 => ⟨S128x2048, .f32⟩
  | 40 => ⟨S128x2048, .f32⟩
  | 41 => ⟨S128x2048, .f32⟩
  | 42 => ⟨S128x2048, .f32⟩
  | 43 => ⟨S128x2048, .f32⟩
  | 44 => ⟨S128x2048, .f32⟩
  | 45 => ⟨S128x2048, .i1⟩
  | 46 => ⟨S128x2048, .i1⟩
  | 47 => ⟨S128x2048, .i1⟩
  | 48 => ⟨S128x2048, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x1, .i32⟩
  | 68 => ⟨S1x1, .i32⟩
  | 69 => ⟨S1, .i32⟩
  | 70 => ⟨S_, .i32⟩
  | 71 => ⟨S1, .i32⟩
  | 72 => ⟨S_, .i32⟩
  | 73 => ⟨S2, .i64⟩
  | 74 => ⟨S_, .i64⟩
  | 75 => ⟨S2, .i64⟩
  | 76 => ⟨S2, .i64⟩
  | 77 => ⟨S_, .i64⟩
  | 78 => ⟨S2, .i64⟩
  | 79 => ⟨S2, .i64⟩
  | 80 => ⟨S2, .i32⟩
  | 81 => ⟨S2, .i32⟩
  | 82 => ⟨S_, .i32⟩
  | 83 => ⟨S_, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S128x2048, .i32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S128x2048, .i32⟩

abbrev hbmTy0_10 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S2x1, .i32⟩
  | 49 => ⟨S2x1, .i32⟩
  | 50 => ⟨S2x2, .i32⟩
  | 51 => ⟨S1x2, .i32⟩
  | 52 => ⟨S2, .i32⟩
  | 53 => ⟨S1x2, .i32⟩
  | 54 => ⟨S2, .i32⟩
  | 55 => ⟨S1, .i32⟩
  | 56 => ⟨S_, .i32⟩
  | 57 => ⟨S1, .i32⟩
  | 58 => ⟨S_, .i32⟩
  | 59 => ⟨S128x2048, .i64⟩
  | 60 => ⟨S128x2048, .i64⟩
  | 61 => ⟨S_, .i64⟩
  | 62 => ⟨S128x2048, .i64⟩
  | 63 => ⟨S128x2048, .i64⟩
  | 64 => ⟨S_, .i64⟩
  | 65 => ⟨S128x2048, .i64⟩
  | 66 => ⟨S128x2048, .i64⟩
  | 67 => ⟨S128x2048, .i64⟩
  | 68 => ⟨S_, .i64⟩
  | 69 => ⟨S128x2048, .i64⟩
  | 70 => ⟨S128x2048, .i64⟩
  | 71 => ⟨S128x2048, .i32⟩
  | 72 => ⟨S128x2048, .i32⟩
  | 73 => ⟨S_, .i32⟩
  | 74 => ⟨S_, .i32⟩
  | 75 => ⟨S_, .i32⟩
  | 76 => ⟨S128x2048, .i32⟩
  | 77 => ⟨S128x2048, .i32⟩
  | 78 => ⟨S128x2048, .i32⟩
  | 79 => ⟨S128x2048, .i32⟩
  | 80 => ⟨S128x2048, .i32⟩
  | 81 => ⟨S_, .i32⟩
  | 82 => ⟨S128x2048, .i32⟩
  | 83 => ⟨S128x2048, .i32⟩
  | 84 => ⟨S_, .i32⟩
  | 85 => ⟨S128x2048, .i32⟩
  | 86 => ⟨S128x2048, .i32⟩
  | 87 => ⟨S128x2048, .i32⟩
  | 88 => ⟨S128x2048, .i32⟩
  | 89 => ⟨S128x2048, .i32⟩
  | 90 => ⟨S_, .i32⟩
  | 91 => ⟨S128x2048, .i32⟩
  | 92 => ⟨S128x2048, .i32⟩
  | 93 => ⟨S_, .i32⟩
  | 94 => ⟨S128x2048, .i32⟩
  | 95 => ⟨S128x2048, .i32⟩
  | 96 => ⟨S128x2048, .i32⟩
  | 97 => ⟨S128x2048, .i32⟩
  | 98 => ⟨S128x2048, .i32⟩
  | 99 => ⟨S_, .i32⟩
  | 100 => ⟨S128x2048, .i32⟩
  | 101 => ⟨S128x2048, .i32⟩
  | 102 => ⟨S_, .i32⟩
  | 103 => ⟨S128x2048, .i32⟩
  | 104 => ⟨S128x2048, .i32⟩
  | 105 => ⟨S128x2048, .i32⟩
  | 106 => ⟨S128x2048, .i32⟩
  | 107 => ⟨S128x2048, .i32⟩
  | 108 => ⟨S_, .i32⟩
  | 109 => ⟨S128x2048, .i32⟩
  | 110 => ⟨S128x2048, .i32⟩
  | 111 => ⟨S_, .i32⟩
  | 112 => ⟨S128x2048, .i32⟩
  | 113 => ⟨S128x2048, .i32⟩
  | 114 => ⟨S128x2048, .i32⟩
  | 115 => ⟨S128x2048, .i32⟩
  | 116 => ⟨S128x2048, .i32⟩
  | 117 => ⟨S128x2048, .i32⟩
  | 118 => ⟨S128x2048, .i32⟩
  | 119 => ⟨S128x2048, .i32⟩
  | 120 => ⟨S_, .i32⟩
  | 121 => ⟨S128x2048, .i32⟩
  | 122 => ⟨S128x2048, .i32⟩
  | 123 => ⟨S128x2048, .i32⟩
  | 124 => ⟨S_, .i32⟩
  | 125 => ⟨S128x2048, .i32⟩
  | 126 => ⟨S128x2048, .i32⟩
  | 127 => ⟨S_, .i32⟩
  | _ => ⟨S128x2048, .i32⟩

abbrev hbmTy0_11 (i : Nat) : BufTy := match i % 128 with
  | 0 => ⟨S128x2048, .i32⟩
  | 1 => ⟨S128x2048, .i32⟩
  | 2 => ⟨S128x2048, .i32⟩
  | 3 => ⟨S128x2048, .i32⟩
  | 4 => ⟨S128x2048, .i32⟩
  | 5 => ⟨S_, .i32⟩
  | 6 => ⟨S128x2048, .i32⟩
  | 7 => ⟨S128x2048, .i32⟩
  | 8 => ⟨S_, .i32⟩
  | 9 => ⟨S128x2048, .i32⟩
  | 10 => ⟨S128x2048, .i32⟩
  | 11 => ⟨S128x2048, .i32⟩
  | 12 => ⟨S128x2048, .i32⟩
  | 13 => ⟨S128x2048, .i32⟩
  | 14 => ⟨S_, .i32⟩
  | 15 => ⟨S128x2048, .i32⟩
  | 16 => ⟨S128x2048, .i32⟩
  | 17 => ⟨S_, .i32⟩
  | 18 => ⟨S128x2048, .i32⟩
  | 19 => ⟨S128x2048, .i32⟩
  | 20 => ⟨S128x2048, .i32⟩
  | 21 => ⟨S128x2048, .i32⟩
  | 22 => ⟨S128x2048, .i32⟩
  | 23 => ⟨S_, .i32⟩
  | 24 => ⟨S128x2048, .i32⟩
  | 25 => ⟨S128x2048, .i32⟩
  | 26 => ⟨S_, .i32⟩
  | 27 => ⟨S128x2048, .i32⟩
  | 28 => ⟨S128x2048, .i32⟩
  | 29 => ⟨S128x2048, .i32⟩
  | 30 => ⟨S128x2048, .i32⟩
  | 31 => ⟨S128x2048, .i32⟩
  | 32 => ⟨S128x2048, .i32⟩
  | 33 => ⟨S128x2048, .i32⟩
  | 34 => ⟨S128x2048, .i32⟩
  | 35 => ⟨S_, .i32⟩
  | 36 => ⟨S128x2048, .i32⟩
  | 37 => ⟨S128x2048, .i32⟩
  | 38 => ⟨S128x2048, .i32⟩
  | 39 => ⟨S_, .i32⟩
  | 40 => ⟨S128x2048, .i32⟩
  | 41 => ⟨S128x2048, .i32⟩
  | 42 => ⟨S_, .i32⟩
  | 43 => ⟨S128x2048, .i32⟩
  | 44 => ⟨S128x2048, .i32⟩
  | 45 => ⟨S128x2048, .i32⟩
  | 46 => ⟨S128x2048, .i32⟩
  | 47 => ⟨S128x2048, .i32⟩
  | 48 => ⟨S_, .i32⟩
  | 49 => ⟨S128x2048, .i32⟩
  | 50 => ⟨S128x2048, .i32⟩
  | 51 => ⟨S_, .i32⟩
  | 52 => ⟨S128x2048, .i32⟩
  | 53 => ⟨S128x2048, .i32⟩
  | 54 => ⟨S128x2048, .i32⟩
  | 55 => ⟨S128x2048, .i32⟩
  | 56 => ⟨S128x2048, .i32⟩
  | 57 => ⟨S_, .i32⟩
  | 58 => ⟨S128x2048, .i32⟩
  | 59 => ⟨S128x2048, .i32⟩
  | 60 => ⟨S_, .i32⟩
  | 61 => ⟨S128x2048, .i32⟩
  | 62 => ⟨S128x2048, .i32⟩
  | 63 => ⟨S128x2048, .i32⟩
  | 64 => ⟨S128x2048, .i32⟩
  | 65 => ⟨S128x2048, .i32⟩
  | 66 => ⟨S_, .i32⟩
  | 67 => ⟨S128x2048, .i32⟩
  | 68 => ⟨S128x2048, .i32⟩
  | 69 => ⟨S_, .i32⟩
  | 70 => ⟨S128x2048, .i32⟩
  | 71 => ⟨S128x2048, .i32⟩
  | 72 => ⟨S128x2048, .i32⟩
  | 73 => ⟨S128x2048, .i32⟩
  | 74 => ⟨S128x2048, .i32⟩
  | 75 => ⟨S128x2048, .i32⟩
  | 76 => ⟨S128x2048, .i32⟩
  | 77 => ⟨S128x2048, .i32⟩
  | 78 => ⟨S_, .i32⟩
  | 79 => ⟨S128x2048, .i32⟩
  | 80 => ⟨S128x2048, .i32⟩
  | 81 => ⟨S128x2048, .i32⟩
  | 82 => ⟨S_, .i32⟩
  | 83 => ⟨S128x2048, .i32⟩
  | 84 => ⟨S128x2048, .i32⟩
  | 85 => ⟨S_, .i32⟩
  | 86 => ⟨S128x2048, .i32⟩
  | 87 => ⟨S128x2048, .i32⟩
  | 88 => ⟨S128x2048, .i32⟩
  | 89 => ⟨S128x2048, .i32⟩
  | 90 => ⟨S128x2048, .i32⟩
  | 91 => ⟨S_, .i32⟩
  | 92 => ⟨S128x2048, .i32⟩
  | 93 => ⟨S128x2048, .i32⟩
  | 94 => ⟨S_, .i32⟩
  | 95 => ⟨S128x2048, .i32⟩
  | 96 => ⟨S128x2048, .i32⟩
  | 97 => ⟨S128x2048, .i32⟩
  | 98 => ⟨S128x2048, .i32⟩
  | 99 => ⟨S128x2048, .i32⟩
  | 100 => ⟨S_, .i32⟩
  | 101 => ⟨S128x2048, .i32⟩
  | 102 => ⟨S128x2048, .i32⟩
  | 103 => ⟨S_, .i32⟩
  | 104 => ⟨S128x2048, .i32⟩
  | 105 => ⟨S128x2048, .i32⟩
  | 106 => ⟨S128x2048, .i32⟩
  | 107 => ⟨S128x2048, .i32⟩
  | 108 => ⟨S128x2048, .i32⟩
  | 109 => ⟨S_, .i32⟩
  | 110 => ⟨S128x2048, .i32⟩
  | 111 => ⟨S128x2048, .i32⟩
  | 112 => ⟨S_, .i32⟩
  | 113 => ⟨S128x2048, .i32⟩
  | 114 => ⟨S128x2048, .i32⟩
  | 115 => ⟨S128x2048, .i32⟩
  | 116 => ⟨S128x2048, .i32⟩
  | 117 => ⟨S128x2048, .i32⟩
  | 118 => ⟨S128x2048, .i32⟩
  | 119 => ⟨S128x2048, .i32⟩
  | 120 => ⟨S128x2048, .i32⟩
  | 121 => ⟨S_, .i32⟩
  | 122 => ⟨S128x2048, .i32⟩
  | 123 => ⟨S128x2048, .i32⟩
  | 124 => ⟨S128x2048, .i32⟩
  | 125 => ⟨S_, .i32⟩
  | 126 => ⟨S128x2048, .i32⟩
  | 127 => ⟨S128x2048, .i32⟩
  | _ => ⟨S128x2048, .i32⟩

abbrev hbmTy0_12 (i : Nat) : BufTy := match i % 128 with
  | 0 => ⟨S_, .i32⟩
  | 1 => ⟨S128x2048, .i32⟩
  | 2 => ⟨S128x2048, .i32⟩
  | 3 => ⟨S128x2048, .i32⟩
  | 4 => ⟨S128x2048, .i32⟩
  | 5 => ⟨S128x2048, .i32⟩
  | 6 => ⟨S_, .i32⟩
  | 7 => ⟨S128x2048, .i32⟩
  | 8 => ⟨S128x2048, .i32⟩
  | 9 => ⟨S_, .i32⟩
  | 10 => ⟨S128x2048, .i32⟩
  | 11 => ⟨S128x2048, .i32⟩
  | 12 => ⟨S128x2048, .i32⟩
  | 13 => ⟨S128x2048, .i32⟩
  | 14 => ⟨S128x2048, .i32⟩
  | 15 => ⟨S_, .i32⟩
  | 16 => ⟨S128x2048, .i32⟩
  | 17 => ⟨S128x2048, .i32⟩
  | 18 => ⟨S_, .i32⟩
  | 19 => ⟨S128x2048, .i32⟩
  | 20 => ⟨S128x2048, .i32⟩
  | 21 => ⟨S128x2048, .i32⟩
  | 22 => ⟨S128x2048, .i32⟩
  | 23 => ⟨S128x2048, .i32⟩
  | 24 => ⟨S_, .i32⟩
  | 25 => ⟨S128x2048, .i32⟩
  | 26 => ⟨S128x2048, .i32⟩
  | 27 => ⟨S_, .i32⟩
  | 28 => ⟨S128x2048, .i32⟩
  | 29 => ⟨S128x2048, .i32⟩
  | 30 => ⟨S128x2048, .i32⟩
  | 31 => ⟨S128x2048, .i32⟩
  | 32 => ⟨S128x2048, .i32⟩
  | 33 => ⟨S128x2048, .i32⟩
  | 34 => ⟨S128x2048, .i32⟩
  | 35 => ⟨S128x2048, .i32⟩
  | 36 => ⟨S_, .i32⟩
  | 37 => ⟨S128x2048, .i32⟩
  | 38 => ⟨S128x2048, .i32⟩
  | 39 => ⟨S128x2048, .i32⟩
  | 40 => ⟨S1, .i32⟩
  | 41 => ⟨S_, .i32⟩
  | 42 => ⟨S1, .i32⟩
  | 43 => ⟨S_, .i32⟩
  | 44 => ⟨S128x2048, .i64⟩
  | 45 => ⟨S128x2048, .i64⟩
  | 46 => ⟨S_, .i64⟩
  | 47 => ⟨S128x2048, .i64⟩
  | 48 => ⟨S128x2048, .i64⟩
  | 49 => ⟨S_, .i64⟩
  | 50 => ⟨S128x2048, .i64⟩
  | 51 => ⟨S128x2048, .i64⟩
  | 52 => ⟨S128x2048, .i64⟩
  | 53 => ⟨S_, .i64⟩
  | 54 => ⟨S128x2048, .i64⟩
  | 55 => ⟨S128x2048, .i64⟩
  | 56 => ⟨S128x2048, .i32⟩
  | 57 => ⟨S128x2048, .i32⟩
  | 58 => ⟨S_, .i32⟩
  | 59 => ⟨S_, .i32⟩
  | 60 => ⟨S_, .i32⟩
  | 61 => ⟨S128x2048, .i32⟩
  | 62 => ⟨S128x2048, .i32⟩
  | 63 => ⟨S128x2048, .i32⟩
  | 64 => ⟨S128x2048, .i32⟩
  | 65 => ⟨S128x2048, .i32⟩
  | 66 => ⟨S_, .i32⟩
  | 67 => ⟨S128x2048, .i32⟩
  | 68 => ⟨S128x2048, .i32⟩
  | 69 => ⟨S_, .i32⟩
  | 70 => ⟨S128x2048, .i32⟩
  | 71 => ⟨S128x2048, .i32⟩
  | 72 => ⟨S128x2048, .i32⟩
  | 73 => ⟨S128x2048, .i32⟩
  | 74 => ⟨S128x2048, .i32⟩
  | 75 => ⟨S_, .i32⟩
  | 76 => ⟨S128x2048, .i32⟩
  | 77 => ⟨S128x2048, .i32⟩
  | 78 => ⟨S_, .i32⟩
  | 79 => ⟨S128x2048, .i32⟩
  | 80 => ⟨S128x2048, .i32⟩
  | 81 => ⟨S128x2048, .i32⟩
  | 82 => ⟨S128x2048, .i32⟩
  | 83 => ⟨S128x2048, .i32⟩
  | 84 => ⟨S_, .i32⟩
  | 85 => ⟨S128x2048, .i32⟩
  | 86 => ⟨S128x2048, .i32⟩
  | 87 => ⟨S_, .i32⟩
  | 88 => ⟨S128x2048, .i32⟩
  | 89 => ⟨S128x2048, .i32⟩
  | 90 => ⟨S128x2048, .i32⟩
  | 91 => ⟨S128x2048, .i32⟩
  | 92 => ⟨S128x2048, .i32⟩
  | 93 => ⟨S_, .i32⟩
  | 94 => ⟨S128x2048, .i32⟩
  | 95 => ⟨S128x2048, .i32⟩
  | 96 => ⟨S_, .i32⟩
  | 97 => ⟨S128x2048, .i32⟩
  | 98 => ⟨S128x2048, .i32⟩
  | 99 => ⟨S128x2048, .i32⟩
  | 100 => ⟨S128x2048, .i32⟩
  | 101 => ⟨S128x2048, .i32⟩
  | 102 => ⟨S128x2048, .i32⟩
  | 103 => ⟨S128x2048, .i32⟩
  | 104 => ⟨S128x2048, .i32⟩
  | 105 => ⟨S_, .i32⟩
  | 106 => ⟨S128x2048, .i32⟩
  | 107 => ⟨S128x2048, .i32⟩
  | 108 => ⟨S128x2048, .i32⟩
  | 109 => ⟨S_, .i32⟩
  | 110 => ⟨S128x2048, .i32⟩
  | 111 => ⟨S128x2048, .i32⟩
  | 112 => ⟨S_, .i32⟩
  | 113 => ⟨S128x2048, .i32⟩
  | 114 => ⟨S128x2048, .i32⟩
  | 115 => ⟨S128x2048, .i32⟩
  | 116 => ⟨S128x2048, .i32⟩
  | 117 => ⟨S128x2048, .i32⟩
  | 118 => ⟨S_, .i32⟩
  | 119 => ⟨S128x2048, .i32⟩
  | 120 => ⟨S128x2048, .i32⟩
  | 121 => ⟨S_, .i32⟩
  | 122 => ⟨S128x2048, .i32⟩
  | 123 => ⟨S128x2048, .i32⟩
  | 124 => ⟨S128x2048, .i32⟩
  | 125 => ⟨S128x2048, .i32⟩
  | 126 => ⟨S128x2048, .i32⟩
  | 127 => ⟨S_, .i32⟩
  | _ => ⟨S128x2048, .i32⟩

abbrev hbmTy0_13 (i : Nat) : BufTy := match i % 128 with
  | 0 => ⟨S128x2048, .i32⟩
  | 1 => ⟨S128x2048, .i32⟩
  | 2 => ⟨S_, .i32⟩
  | 3 => ⟨S128x2048, .i32⟩
  | 4 => ⟨S128x2048, .i32⟩
  | 5 => ⟨S128x2048, .i32⟩
  | 6 => ⟨S128x2048, .i32⟩
  | 7 => ⟨S128x2048, .i32⟩
  | 8 => ⟨S_, .i32⟩
  | 9 => ⟨S128x2048, .i32⟩
  | 10 => ⟨S128x2048, .i32⟩
  | 11 => ⟨S_, .i32⟩
  | 12 => ⟨S128x2048, .i32⟩
  | 13 => ⟨S128x2048, .i32⟩
  | 14 => ⟨S128x2048, .i32⟩
  | 15 => ⟨S128x2048, .i32⟩
  | 16 => ⟨S128x2048, .i32⟩
  | 17 => ⟨S128x2048, .i32⟩
  | 18 => ⟨S128x2048, .i32⟩
  | 19 => ⟨S128x2048, .i32⟩
  | 20 => ⟨S_, .i32⟩
  | 21 => ⟨S128x2048, .i32⟩
  | 22 => ⟨S128x2048, .i32⟩
  | 23 => ⟨S128x2048, .i32⟩
  | 24 => ⟨S_, .i32⟩
  | 25 => ⟨S128x2048, .i32⟩
  | 26 => ⟨S128x2048, .i32⟩
  | 27 => ⟨S_, .i32⟩
  | 28 => ⟨S128x2048, .i32⟩
  | 29 => ⟨S128x2048, .i32⟩
  | 30 => ⟨S128x2048, .i32⟩
  | 31 => ⟨S128x2048, .i32⟩
  | 32 => ⟨S128x2048, .i32⟩
  | 33 => ⟨S_, .i32⟩
  | 34 => ⟨S128x2048, .i32⟩
  | 35 => ⟨S128x2048, .i32⟩
  | 36 => ⟨S_, .i32⟩
  | 37 => ⟨S128x2048, .i32⟩
  | 38 => ⟨S128x2048, .i32⟩
  | 39 => ⟨S128x2048, .i32⟩
  | 40 => ⟨S128x2048, .i32⟩
  | 41 => ⟨S128x2048, .i32⟩
  | 42 => ⟨S_, .i32⟩
  | 43 => ⟨S128x2048, .i32⟩
  | 44 => ⟨S128x2048, .i32⟩
  | 45 => ⟨S_, .i32⟩
  | 46 => ⟨S128x2048, .i32⟩
  | 47 => ⟨S128x2048, .i32⟩
  | 48 => ⟨S128x2048, .i32⟩
  | 49 => ⟨S128x2048, .i32⟩
  | 50 => ⟨S128x2048, .i32⟩
  | 51 => ⟨S_, .i32⟩
  | 52 => ⟨S128x2048, .i32⟩
  | 53 => ⟨S128x2048, .i32⟩
  | 54 => ⟨S_, .i32⟩
  | 55 => ⟨S128x2048, .i32⟩
  | 56 => ⟨S128x2048, .i32⟩
  | 57 => ⟨S128x2048, .i32⟩
  | 58 => ⟨S128x2048, .i32⟩
  | 59 => ⟨S128x2048, .i32⟩
  | 60 => ⟨S128x2048, .i32⟩
  | 61 => ⟨S128x2048, .i32⟩
  | 62 => ⟨S128x2048, .i32⟩
  | 63 => ⟨S_, .i32⟩
  | 64 => ⟨S128x2048, .i32⟩
  | 65 => ⟨S128x2048, .i32⟩
  | 66 => ⟨S128x2048, .i32⟩
  | 67 => ⟨S_, .i32⟩
  | 68 => ⟨S128x2048, .i32⟩
  | 69 => ⟨S128x2048, .i32⟩
  | 70 => ⟨S_, .i32⟩
  | 71 => ⟨S128x2048, .i32⟩
  | 72 => ⟨S128x2048, .i32⟩
  | 73 => ⟨S128x2048, .i32⟩
  | 74 => ⟨S128x2048, .i32⟩
  | 75 => ⟨S128x2048, .i32⟩
  | 76 => ⟨S_, .i32⟩
  | 77 => ⟨S128x2048, .i32⟩
  | 78 => ⟨S128x2048, .i32⟩
  | 79 => ⟨S_, .i32⟩
  | 80 => ⟨S128x2048, .i32⟩
  | 81 => ⟨S128x2048, .i32⟩
  | 82 => ⟨S128x2048, .i32⟩
  | 83 => ⟨S128x2048, .i32⟩
  | 84 => ⟨S128x2048, .i32⟩
  | 85 => ⟨S_, .i32⟩
  | 86 => ⟨S128x2048, .i32⟩
  | 87 => ⟨S128x2048, .i32⟩
  | 88 => ⟨S_, .i32⟩
  | 89 => ⟨S128x2048, .i32⟩
  | 90 => ⟨S128x2048, .i32⟩
  | 91 => ⟨S128x2048, .i32⟩
  | 92 => ⟨S128x2048, .i32⟩
  | 93 => ⟨S128x2048, .i32⟩
  | 94 => ⟨S_, .i32⟩
  | 95 => ⟨S128x2048, .i32⟩
  | 96 => ⟨S128x2048, .i32⟩
  | 97 => ⟨S_, .i32⟩
  | 98 => ⟨S128x2048, .i32⟩
  | 99 => ⟨S128x2048, .i32⟩
  | 100 => ⟨S128x2048, .i32⟩
  | 101 => ⟨S128x2048, .i32⟩
  | 102 => ⟨S128x2048, .i32⟩
  | 103 => ⟨S128x2048, .i32⟩
  | 104 => ⟨S128x2048, .i32⟩
  | 105 => ⟨S128x2048, .i32⟩
  | 106 => ⟨S_, .i32⟩
  | 107 => ⟨S128x2048, .i32⟩
  | 108 => ⟨S128x2048, .i32⟩
  | 109 => ⟨S128x2048, .i32⟩
  | 110 => ⟨S_, .i32⟩
  | 111 => ⟨S128x2048, .i32⟩
  | 112 => ⟨S128x2048, .i32⟩
  | 113 => ⟨S_, .i32⟩
  | 114 => ⟨S128x2048, .i32⟩
  | 115 => ⟨S128x2048, .i32⟩
  | 116 => ⟨S128x2048, .i32⟩
  | 117 => ⟨S128x2048, .i32⟩
  | 118 => ⟨S128x2048, .i32⟩
  | 119 => ⟨S_, .i32⟩
  | 120 => ⟨S128x2048, .i32⟩
  | 121 => ⟨S128x2048, .i32⟩
  | 122 => ⟨S_, .i32⟩
  | 123 => ⟨S128x2048, .i32⟩
  | 124 => ⟨S128x2048, .i32⟩
  | 125 => ⟨S128x2048, .i32⟩
  | 126 => ⟨S128x2048, .i32⟩
  | 127 => ⟨S128x2048, .i32⟩
  | _ => ⟨S128x2048, .i32⟩

abbrev hbmTy0_14 (i : Nat) : BufTy := match i % 128 with
  | 0 => ⟨S_, .i32⟩
  | 1 => ⟨S128x2048, .i32⟩
  | 2 => ⟨S128x2048, .i32⟩
  | 3 => ⟨S_, .i32⟩
  | 4 => ⟨S128x2048, .i32⟩
  | 5 => ⟨S128x2048, .i32⟩
  | 6 => ⟨S128x2048, .i32⟩
  | 7 => ⟨S128x2048, .i32⟩
  | 8 => ⟨S128x2048, .i32⟩
  | 9 => ⟨S_, .i32⟩
  | 10 => ⟨S128x2048, .i32⟩
  | 11 => ⟨S128x2048, .i32⟩
  | 12 => ⟨S_, .i32⟩
  | 13 => ⟨S128x2048, .i32⟩
  | 14 => ⟨S128x2048, .i32⟩
  | 15 => ⟨S128x2048, .i32⟩
  | 16 => ⟨S128x2048, .i32⟩
  | 17 => ⟨S128x2048, .i32⟩
  | 18 => ⟨S128x2048, .i32⟩
  | 19 => ⟨S128x2048, .i32⟩
  | 20 => ⟨S128x2048, .i32⟩
  | 21 => ⟨S_, .i32⟩
  | 22 => ⟨S128x2048, .i32⟩
  | 23 => ⟨S128x2048, .i32⟩
  | 24 => ⟨S128x2048, .i32⟩
  | 25 => ⟨S1x1, .i32⟩
  | 26 => ⟨S1x1, .i32⟩
  | 27 => ⟨S1x1, .i1⟩
  | 28 => ⟨S_, .i32⟩
  | 29 => ⟨S1x1, .i32⟩
  | 30 => ⟨S1x1, .i32⟩
  | 31 => ⟨S1x1, .i1⟩
  | 32 => ⟨S1x1, .i1⟩
  | 33 => ⟨S1x1, .i1⟩
  | 34 => ⟨S_, .i32⟩
  | 35 => ⟨S1x1, .i32⟩
  | 36 => ⟨S1x1, .i32⟩
  | 37 => ⟨S1x1, .i32⟩
  | 38 => ⟨S_, .i32⟩
  | 39 => ⟨S1x1, .i32⟩
  | 40 => ⟨S1x1, .i32⟩
  | 41 => ⟨S1x1, .i32⟩
  | 42 => ⟨S1x1, .i32⟩
  | 43 => ⟨S128x2048, .i32⟩
  | 44 => ⟨S128x2048, .i32⟩
  | 45 => ⟨S128x2048, .i32⟩
  | 46 => ⟨S128x2048, .i32⟩
  | 47 => ⟨S128x2048, .i32⟩
  | 48 => ⟨S128x2048, .i32⟩
  | 49 => ⟨S128x2048, .i32⟩
  | 50 => ⟨S128x2048, .i32⟩
  | 51 => ⟨S128x2048, .i32⟩
  | 52 => ⟨S128x2048, .i32⟩
  | 53 => ⟨S128x2048, .i32⟩
  | 54 => ⟨S128x2048, .i32⟩
  | 55 => ⟨S128x2048, .i32⟩
  | _ => ⟨S128x2048, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S128x2048, .i32⟩

abbrev bufTy : (tb : Table) → Fin (tcTables nBuf tb) → BufTy
  | .hbm, ⟨i, _⟩ => hbmTy i
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_v15 : Ref sig .tc := ⟨.hbm, 257, rfl⟩
abbrev main_cst : Ref sig .tc := ⟨.hbm, 258, rfl⟩
abbrev main_cst_2 : Ref sig .tc := ⟨.hbm, 259, rfl⟩
abbrev main_call1_v0 : Ref sig .tc := ⟨.hbm, 260, rfl⟩
abbrev main_call1_v1 : Ref sig .tc := ⟨.hbm, 261, rfl⟩
abbrev main_v16 : Ref sig .tc := ⟨.hbm, 262, rfl⟩
abbrev main_v17 : Ref sig .tc := ⟨.hbm, 263, rfl⟩
abbrev main_call2_cst : Ref sig .tc := ⟨.hbm, 264, rfl⟩
abbrev main_call2_cst_0 : Ref sig .tc := ⟨.hbm, 265, rfl⟩
abbrev main_call2_call0_v0 : Ref sig .tc := ⟨.hbm, 266, rfl⟩
abbrev main_call2_call0_v1 : Ref sig .tc := ⟨.hbm, 267, rfl⟩
abbrev main_call2_call0_v2 : Ref sig .tc := ⟨.hbm, 268, rfl⟩
abbrev main_call2_call0_v3 : Ref sig .tc := ⟨.hbm, 269, rfl⟩
abbrev main_call2_call0_v4 : Ref sig .tc := ⟨.hbm, 270, rfl⟩
abbrev main_call2_call0_v5 : Ref sig .tc := ⟨.hbm, 271, rfl⟩
abbrev main_call2_call0_v6 : Ref sig .tc := ⟨.hbm, 272, rfl⟩
abbrev main_call2_call0_v7 : Ref sig .tc := ⟨.hbm, 273, rfl⟩
abbrev main_call2_call0_v8 : Ref sig .tc := ⟨.hbm, 274, rfl⟩
abbrev main_call2_call0_v9 : Ref sig .tc := ⟨.hbm, 275, rfl⟩
abbrev main_call2_call0_c : Ref sig .tc := ⟨.hbm, 276, rfl⟩
abbrev main_call2_call0_v10 : Ref sig .tc := ⟨.hbm, 277, rfl⟩
abbrev main_call2_call0_v11 : Ref sig .tc := ⟨.hbm, 278, rfl⟩
abbrev main_call2_call0_c_0 : Ref sig .tc := ⟨.hbm, 279, rfl⟩
abbrev main_call2_call0_v12 : Ref sig .tc := ⟨.hbm, 280, rfl⟩
abbrev main_call2_call0_v13 : Ref sig .tc := ⟨.hbm, 281, rfl⟩
abbrev main_call2_call0_v14 : Ref sig .tc := ⟨.hbm, 282, rfl⟩
abbrev main_call2_call0_c_1 : Ref sig .tc := ⟨.hbm, 283, rfl⟩
abbrev main_call2_call0_v15 : Ref sig .tc := ⟨.hbm, 284, rfl⟩
abbrev main_call2_call0_v16 : Ref sig .tc := ⟨.hbm, 285, rfl⟩
abbrev main_call2_call0_v17 : Ref sig .tc := ⟨.hbm, 286, rfl⟩
abbrev main_call2_call0_v18 : Ref sig .tc := ⟨.hbm, 287, rfl⟩
abbrev main_call2_call0_call0_v0 : Ref sig .tc := ⟨.hbm, 288, rfl⟩
abbrev main_call2_call0_call0_c : Ref sig .tc := ⟨.hbm, 289, rfl⟩
abbrev main_call2_call0_call0_v1 : Ref sig .tc := ⟨.hbm, 290, rfl⟩
abbrev main_call2_call0_call0_v2 : Ref sig .tc := ⟨.hbm, 291, rfl⟩
abbrev main_call2_call0_call0_v3 : Ref sig .tc := ⟨.hbm, 292, rfl⟩
abbrev main_call2_call0_call0_v4 : Ref sig .tc := ⟨.hbm, 293, rfl⟩
abbrev main_call2_call0_call0_v5 : Ref sig .tc := ⟨.hbm, 294, rfl⟩
abbrev main_call2_call0_call0_v6 : Ref sig .tc := ⟨.hbm, 295, rfl⟩
abbrev main_call2_call0_call0_c_0 : Ref sig .tc := ⟨.hbm, 296, rfl⟩
abbrev main_call2_call0_call0_v7 : Ref sig .tc := ⟨.hbm, 297, rfl⟩
abbrev main_call2_call0_call0_v8 : Ref sig .tc := ⟨.hbm, 298, rfl⟩
abbrev main_call2_call0_call0_c_1 : Ref sig .tc := ⟨.hbm, 299, rfl⟩
abbrev main_call2_call0_call0_v9 : Ref sig .tc := ⟨.hbm, 300, rfl⟩
abbrev main_call2_call0_call0_v10 : Ref sig .tc := ⟨.hbm, 301, rfl⟩
abbrev main_call2_call0_call0_v11 : Ref sig .tc := ⟨.hbm, 302, rfl⟩
abbrev main_call2_call0_call0_v12 : Ref sig .tc := ⟨.hbm, 303, rfl⟩
abbrev main_call2_call0_call0_v13 : Ref sig .tc := ⟨.hbm, 304, rfl⟩
abbrev main_call2_call0_call0_c_2 : Ref sig .tc := ⟨.hbm, 305, rfl⟩
abbrev main_call2_call0_call0_v14 : Ref sig .tc := ⟨.hbm, 306, rfl⟩
abbrev main_call2_call0_call0_v15 : Ref sig .tc := ⟨.hbm, 307, rfl⟩
abbrev main_call2_call0_call0_c_3 : Ref sig .tc := ⟨.hbm, 308, rfl⟩
abbrev main_call2_call0_call0_v16 : Ref sig .tc := ⟨.hbm, 309, rfl⟩
abbrev main_call2_call0_call0_v17 : Ref sig .tc := ⟨.hbm, 310, rfl⟩
abbrev main_call2_call0_call0_v18 : Ref sig .tc := ⟨.hbm, 311, rfl⟩
abbrev main_call2_call0_call0_v19 : Ref sig .tc := ⟨.hbm, 312, rfl⟩
abbrev main_call2_call0_call0_v20 : Ref sig .tc := ⟨.hbm, 313, rfl⟩
abbrev main_call2_call0_call0_c_4 : Ref sig .tc := ⟨.hbm, 314, rfl⟩
abbrev main_call2_call0_call0_v21 : Ref sig .tc := ⟨.hbm, 315, rfl⟩
abbrev main_call2_call0_call0_v22 : Ref sig .tc := ⟨.hbm, 316, rfl⟩
abbrev main_call2_call0_call0_c_5 : Ref sig .tc := ⟨.hbm, 317, rfl⟩
abbrev main_call2_call0_call0_v23 : Ref sig .tc := ⟨.hbm, 318, rfl⟩
abbrev main_call2_call0_call0_v24 : Ref sig .tc := ⟨.hbm, 319, rfl⟩
abbrev main_call2_call0_call0_v25 : Ref sig .tc := ⟨.hbm, 320, rfl⟩
abbrev main_call2_call0_call0_v26 : Ref sig .tc := ⟨.hbm, 321, rfl⟩
abbrev main_call2_call0_call0_v27 : Ref sig .tc := ⟨.hbm, 322, rfl⟩
abbrev main_call2_call0_call0_c_6 : Ref sig .tc := ⟨.hbm, 323, rfl⟩
abbrev main_call2_call0_call0_v28 : Ref sig .tc := ⟨.hbm, 324, rfl⟩
abbrev main_call2_call0_call0_v29 : Ref sig .tc := ⟨.hbm, 325, rfl⟩
abbrev main_call2_call0_call0_c_7 : Ref sig .tc := ⟨.hbm, 326, rfl⟩
abbrev main_call2_call0_call0_v30 : Ref sig .tc := ⟨.hbm, 327, rfl⟩
abbrev main_call2_call0_call0_v31 : Ref sig .tc := ⟨.hbm, 328, rfl⟩
abbrev main_call2_call0_call0_v32 : Ref sig .tc := ⟨.hbm, 329, rfl⟩
abbrev main_call2_call0_call0_v33 : Ref sig .tc := ⟨.hbm, 330, rfl⟩
abbrev main_call2_call0_call0_v34 : Ref sig .tc := ⟨.hbm, 331, rfl⟩
abbrev main_call2_call0_call0_v35 : Ref sig .tc := ⟨.hbm, 332, rfl⟩
abbrev main_call2_call0_call0_v36 : Ref sig .tc := ⟨.hbm, 333, rfl⟩
abbrev main_call2_call0_call0_v37 : Ref sig .tc := ⟨.hbm, 334, rfl⟩
abbrev main_call2_call0_call0_c_8 : Ref sig .tc := ⟨.hbm, 335, rfl⟩
abbrev main_call2_call0_call0_v38 : Ref sig .tc := ⟨.hbm, 336, rfl⟩
abbrev main_call2_call0_call0_v39 : Ref sig .tc := ⟨.hbm, 337, rfl⟩
abbrev main_call2_call0_call0_v40 : Ref sig .tc := ⟨.hbm, 338, rfl⟩
abbrev main_call2_call0_call0_c_9 : Ref sig .tc := ⟨.hbm, 339, rfl⟩
abbrev main_call2_call0_call0_v41 : Ref sig .tc := ⟨.hbm, 340, rfl⟩
abbrev main_call2_call0_call0_v42 : Ref sig .tc := ⟨.hbm, 341, rfl⟩
abbrev main_call2_call0_call0_c_10 : Ref sig .tc := ⟨.hbm, 342, rfl⟩
abbrev main_call2_call0_call0_v43 : Ref sig .tc := ⟨.hbm, 343, rfl⟩
abbrev main_call2_call0_call0_v44 : Ref sig .tc := ⟨.hbm, 344, rfl⟩
abbrev main_call2_call0_call0_v45 : Ref sig .tc := ⟨.hbm, 345, rfl⟩
abbrev main_call2_call0_call0_v46 : Ref sig .tc := ⟨.hbm, 346, rfl⟩
abbrev main_call2_call0_call0_v47 : Ref sig .tc := ⟨.hbm, 347, rfl⟩
abbrev main_call2_call0_call0_c_11 : Ref sig .tc := ⟨.hbm, 348, rfl⟩
abbrev main_call2_call0_call0_v48 : Ref sig .tc := ⟨.hbm, 349, rfl⟩
abbrev main_call2_call0_call0_v49 : Ref sig .tc := ⟨.hbm, 350, rfl⟩
abbrev main_call2_call0_call0_c_12 : Ref sig .tc := ⟨.hbm, 351, rfl⟩
abbrev main_call2_call0_call0_v50 : Ref sig .tc := ⟨.hbm, 352, rfl⟩
abbrev main_call2_call0_call0_v51 : Ref sig .tc := ⟨.hbm, 353, rfl⟩
abbrev main_call2_call0_call0_v52 : Ref sig .tc := ⟨.hbm, 354, rfl⟩
abbrev main_call2_call0_call0_v53 : Ref sig .tc := ⟨.hbm, 355, rfl⟩
abbrev main_call2_call0_call0_v54 : Ref sig .tc := ⟨.hbm, 356, rfl⟩
abbrev main_call2_call0_call0_c_13 : Ref sig .tc := ⟨.hbm, 357, rfl⟩
abbrev main_call2_call0_call0_v55 : Ref sig .tc := ⟨.hbm, 358, rfl⟩
abbrev main_call2_call0_call0_v56 : Ref sig .tc := ⟨.hbm, 359, rfl⟩
abbrev main_call2_call0_call0_c_14 : Ref sig .tc := ⟨.hbm, 360, rfl⟩
abbrev main_call2_call0_call0_v57 : Ref sig .tc := ⟨.hbm, 361, rfl⟩
abbrev main_call2_call0_call0_v58 : Ref sig .tc := ⟨.hbm, 362, rfl⟩
abbrev main_call2_call0_call0_v59 : Ref sig .tc := ⟨.hbm, 363, rfl⟩
abbrev main_call2_call0_call0_v60 : Ref sig .tc := ⟨.hbm, 364, rfl⟩
abbrev main_call2_call0_call0_v61 : Ref sig .tc := ⟨.hbm, 365, rfl⟩
abbrev main_call2_call0_call0_c_15 : Ref sig .tc := ⟨.hbm, 366, rfl⟩
abbrev main_call2_call0_call0_v62 : Ref sig .tc := ⟨.hbm, 367, rfl⟩
abbrev main_call2_call0_call0_v63 : Ref sig .tc := ⟨.hbm, 368, rfl⟩
abbrev main_call2_call0_call0_c_16 : Ref sig .tc := ⟨.hbm, 369, rfl⟩
abbrev main_call2_call0_call0_v64 : Ref sig .tc := ⟨.hbm, 370, rfl⟩
abbrev main_call2_call0_call0_v65 : Ref sig .tc := ⟨.hbm, 371, rfl⟩
abbrev main_call2_call0_call0_v66 : Ref sig .tc := ⟨.hbm, 372, rfl⟩
abbrev main_call2_call0_call0_v67 : Ref sig .tc := ⟨.hbm, 373, rfl⟩
abbrev main_call2_call0_call0_v68 : Ref sig .tc := ⟨.hbm, 374, rfl⟩
abbrev main_call2_call0_call0_v69 : Ref sig .tc := ⟨.hbm, 375, rfl⟩
abbrev main_call2_call0_call0_v70 : Ref sig .tc := ⟨.hbm, 376, rfl⟩
abbrev main_call2_call0_call0_v71 : Ref sig .tc := ⟨.hbm, 377, rfl⟩
abbrev main_call2_call0_call0_c_17 : Ref sig .tc := ⟨.hbm, 378, rfl⟩
abbrev main_call2_call0_call0_v72 : Ref sig .tc := ⟨.hbm, 379, rfl⟩
abbrev main_call2_call0_call0_v73 : Ref sig .tc := ⟨.hbm, 380, rfl⟩
abbrev main_call2_call0_call0_v74 : Ref sig .tc := ⟨.hbm, 381, rfl⟩
abbrev main_call2_call0_call0_c_18 : Ref sig .tc := ⟨.hbm, 382, rfl⟩
abbrev main_call2_call0_call0_v75 : Ref sig .tc := ⟨.hbm, 383, rfl⟩
abbrev main_call2_call0_call0_v76 : Ref sig .tc := ⟨.hbm, 384, rfl⟩
abbrev main_call2_call0_call0_c_19 : Ref sig .tc := ⟨.hbm, 385, rfl⟩
abbrev main_call2_call0_call0_v77 : Ref sig .tc := ⟨.hbm, 386, rfl⟩
abbrev main_call2_call0_call0_v78 : Ref sig .tc := ⟨.hbm, 387, rfl⟩
abbrev main_call2_call0_call0_v79 : Ref sig .tc := ⟨.hbm, 388, rfl⟩
abbrev main_call2_call0_call0_v80 : Ref sig .tc := ⟨.hbm, 389, rfl⟩
abbrev main_call2_call0_call0_v81 : Ref sig .tc := ⟨.hbm, 390, rfl⟩
abbrev main_call2_call0_call0_c_20 : Ref sig .tc := ⟨.hbm, 391, rfl⟩
abbrev main_call2_call0_call0_v82 : Ref sig .tc := ⟨.hbm, 392, rfl⟩
abbrev main_call2_call0_call0_v83 : Ref sig .tc := ⟨.hbm, 393, rfl⟩
abbrev main_call2_call0_call0_c_21 : Ref sig .tc := ⟨.hbm, 394, rfl⟩
abbrev main_call2_call0_call0_v84 : Ref sig .tc := ⟨.hbm, 395, rfl⟩
abbrev main_call2_call0_call0_v85 : Ref sig .tc := ⟨.hbm, 396, rfl⟩
abbrev main_call2_call0_call0_v86 : Ref sig .tc := ⟨.hbm, 397, rfl⟩
abbrev main_call2_call0_call0_v87 : Ref sig .tc := ⟨.hbm, 398, rfl⟩
abbrev main_call2_call0_call0_v88 : Ref sig .tc := ⟨.hbm, 399, rfl⟩
abbrev main_call2_call0_call0_c_22 : Ref sig .tc := ⟨.hbm, 400, rfl⟩
abbrev main_call2_call0_call0_v89 : Ref sig .tc := ⟨.hbm, 401, rfl⟩
abbrev main_call2_call0_call0_v90 : Ref sig .tc := ⟨.hbm, 402, rfl⟩
abbrev main_call2_call0_call0_c_23 : Ref sig .tc := ⟨.hbm, 403, rfl⟩
abbrev main_call2_call0_call0_v91 : Ref sig .tc := ⟨.hbm, 404, rfl⟩
abbrev main_call2_call0_call0_v92 : Ref sig .tc := ⟨.hbm, 405, rfl⟩
abbrev main_call2_call0_call0_v93 : Ref sig .tc := ⟨.hbm, 406, rfl⟩
abbrev main_call2_call0_call0_v94 : Ref sig .tc := ⟨.hbm, 407, rfl⟩
abbrev main_call2_call0_call0_v95 : Ref sig .tc := ⟨.hbm, 408, rfl⟩
abbrev main_call2_call0_call0_c_24 : Ref sig .tc := ⟨.hbm, 409, rfl⟩
abbrev main_call2_call0_call0_v96 : Ref sig .tc := ⟨.hbm, 410, rfl⟩
abbrev main_call2_call0_call0_v97 : Ref sig .tc := ⟨.hbm, 411, rfl⟩
abbrev main_call2_call0_call0_c_25 : Ref sig .tc := ⟨.hbm, 412, rfl⟩
abbrev main_call2_call0_call0_v98 : Ref sig .tc := ⟨.hbm, 413, rfl⟩
abbrev main_call2_call0_call0_v99 : Ref sig .tc := ⟨.hbm, 414, rfl⟩
abbrev main_call2_call0_call0_v100 : Ref sig .tc := ⟨.hbm, 415, rfl⟩
abbrev main_call2_call0_call0_v101 : Ref sig .tc := ⟨.hbm, 416, rfl⟩
abbrev main_call2_call0_call0_v102 : Ref sig .tc := ⟨.hbm, 417, rfl⟩
abbrev main_call2_call0_call0_v103 : Ref sig .tc := ⟨.hbm, 418, rfl⟩
abbrev main_call2_call0_call0_v104 : Ref sig .tc := ⟨.hbm, 419, rfl⟩
abbrev main_call2_call0_call0_v105 : Ref sig .tc := ⟨.hbm, 420, rfl⟩
abbrev main_call2_call0_call0_c_26 : Ref sig .tc := ⟨.hbm, 421, rfl⟩
abbrev main_call2_call0_call0_v106 : Ref sig .tc := ⟨.hbm, 422, rfl⟩
abbrev main_call2_call0_call0_v107 : Ref sig .tc := ⟨.hbm, 423, rfl⟩
abbrev main_call2_call0_call0_v108 : Ref sig .tc := ⟨.hbm, 424, rfl⟩
abbrev main_call2_call0_call0_c_27 : Ref sig .tc := ⟨.hbm, 425, rfl⟩
abbrev main_call2_call0_call0_v109 : Ref sig .tc := ⟨.hbm, 426, rfl⟩
abbrev main_call2_call0_call0_v110 : Ref sig .tc := ⟨.hbm, 427, rfl⟩
abbrev main_call2_call0_call0_c_28 : Ref sig .tc := ⟨.hbm, 428, rfl⟩
abbrev main_call2_call0_call0_v111 : Ref sig .tc := ⟨.hbm, 429, rfl⟩
abbrev main_call2_call0_call0_v112 : Ref sig .tc := ⟨.hbm, 430, rfl⟩
abbrev main_call2_call0_call0_v113 : Ref sig .tc := ⟨.hbm, 431, rfl⟩
abbrev main_call2_call0_call0_v114 : Ref sig .tc := ⟨.hbm, 432, rfl⟩
abbrev main_call2_call0_call0_v115 : Ref sig .tc := ⟨.hbm, 433, rfl⟩
abbrev main_call2_call0_call0_c_29 : Ref sig .tc := ⟨.hbm, 434, rfl⟩
abbrev main_call2_call0_call0_v116 : Ref sig .tc := ⟨.hbm, 435, rfl⟩
abbrev main_call2_call0_call0_v117 : Ref sig .tc := ⟨.hbm, 436, rfl⟩
abbrev main_call2_call0_call0_c_30 : Ref sig .tc := ⟨.hbm, 437, rfl⟩
abbrev main_call2_call0_call0_v118 : Ref sig .tc := ⟨.hbm, 438, rfl⟩
abbrev main_call2_call0_call0_v119 : Ref sig .tc := ⟨.hbm, 439, rfl⟩
abbrev main_call2_call0_call0_v120 : Ref sig .tc := ⟨.hbm, 440, rfl⟩
abbrev main_call2_call0_call0_v121 : Ref sig .tc := ⟨.hbm, 441, rfl⟩
abbrev main_call2_call0_call0_v122 : Ref sig .tc := ⟨.hbm, 442, rfl⟩
abbrev main_call2_call0_call0_c_31 : Ref sig .tc := ⟨.hbm, 443, rfl⟩
abbrev main_call2_call0_call0_v123 : Ref sig .tc := ⟨.hbm, 444, rfl⟩
abbrev main_call2_call0_call0_v124 : Ref sig .tc := ⟨.hbm, 445, rfl⟩
abbrev main_call2_call0_call0_c_32 : Ref sig .tc := ⟨.hbm, 446, rfl⟩
abbrev main_call2_call0_call0_v125 : Ref sig .tc := ⟨.hbm, 447, rfl⟩
abbrev main_call2_call0_call0_v126 : Ref sig .tc := ⟨.hbm, 448, rfl⟩
abbrev main_call2_call0_call0_v127 : Ref sig .tc := ⟨.hbm, 449, rfl⟩
abbrev main_call2_call0_call0_v128 : Ref sig .tc := ⟨.hbm, 450, rfl⟩
abbrev main_call2_call0_call0_v129 : Ref sig .tc := ⟨.hbm, 451, rfl⟩
abbrev main_call2_call0_call0_c_33 : Ref sig .tc := ⟨.hbm, 452, rfl⟩
abbrev main_call2_call0_call0_v130 : Ref sig .tc := ⟨.hbm, 453, rfl⟩
abbrev main_call2_call0_call0_v131 : Ref sig .tc := ⟨.hbm, 454, rfl⟩
abbrev main_call2_call0_call0_c_34 : Ref sig .tc := ⟨.hbm, 455, rfl⟩
abbrev main_call2_call0_call0_v132 : Ref sig .tc := ⟨.hbm, 456, rfl⟩
abbrev main_call2_call0_call0_v133 : Ref sig .tc := ⟨.hbm, 457, rfl⟩
abbrev main_call2_call0_call0_v134 : Ref sig .tc := ⟨.hbm, 458, rfl⟩
abbrev main_call2_call0_call0_v135 : Ref sig .tc := ⟨.hbm, 459, rfl⟩
abbrev main_call2_call0_call0_v136 : Ref sig .tc := ⟨.hbm, 460, rfl⟩
abbrev main_call2_call0_call0_v137 : Ref sig .tc := ⟨.hbm, 461, rfl⟩
abbrev main_call2_call0_call0_v138 : Ref sig .tc := ⟨.hbm, 462, rfl⟩
abbrev main_call2_call0_call0_v139 : Ref sig .tc := ⟨.hbm, 463, rfl⟩
abbrev main_call2_call0_call0_c_35 : Ref sig .tc := ⟨.hbm, 464, rfl⟩
abbrev main_call2_call0_call0_v140 : Ref sig .tc := ⟨.hbm, 465, rfl⟩
abbrev main_call2_call0_call0_v141 : Ref sig .tc := ⟨.hbm, 466, rfl⟩
abbrev main_call2_call0_call0_v142 : Ref sig .tc := ⟨.hbm, 467, rfl⟩
abbrev main_call2_call0_call0_c_36 : Ref sig .tc := ⟨.hbm, 468, rfl⟩
abbrev main_call2_call0_call0_v143 : Ref sig .tc := ⟨.hbm, 469, rfl⟩
abbrev main_call2_call0_call0_v144 : Ref sig .tc := ⟨.hbm, 470, rfl⟩
abbrev main_call2_call0_call0_c_37 : Ref sig .tc := ⟨.hbm, 471, rfl⟩
abbrev main_call2_call0_call0_v145 : Ref sig .tc := ⟨.hbm, 472, rfl⟩
abbrev main_call2_call0_call0_v146 : Ref sig .tc := ⟨.hbm, 473, rfl⟩
abbrev main_call2_call0_call0_v147 : Ref sig .tc := ⟨.hbm, 474, rfl⟩
abbrev main_call2_call0_call0_v148 : Ref sig .tc := ⟨.hbm, 475, rfl⟩
abbrev main_call2_call0_call0_v149 : Ref sig .tc := ⟨.hbm, 476, rfl⟩
abbrev main_call2_call0_call0_c_38 : Ref sig .tc := ⟨.hbm, 477, rfl⟩
abbrev main_call2_call0_call0_v150 : Ref sig .tc := ⟨.hbm, 478, rfl⟩
abbrev main_call2_call0_call0_v151 : Ref sig .tc := ⟨.hbm, 479, rfl⟩
abbrev main_call2_call0_call0_c_39 : Ref sig .tc := ⟨.hbm, 480, rfl⟩
abbrev main_call2_call0_call0_v152 : Ref sig .tc := ⟨.hbm, 481, rfl⟩
abbrev main_call2_call0_call0_v153 : Ref sig .tc := ⟨.hbm, 482, rfl⟩
abbrev main_call2_call0_call0_v154 : Ref sig .tc := ⟨.hbm, 483, rfl⟩
abbrev main_call2_call0_call0_v155 : Ref sig .tc := ⟨.hbm, 484, rfl⟩
abbrev main_call2_call0_call0_v156 : Ref sig .tc := ⟨.hbm, 485, rfl⟩
abbrev main_call2_call0_call0_c_40 : Ref sig .tc := ⟨.hbm, 486, rfl⟩
abbrev main_call2_call0_call0_v157 : Ref sig .tc := ⟨.hbm, 487, rfl⟩
abbrev main_call2_call0_call0_v158 : Ref sig .tc := ⟨.hbm, 488, rfl⟩
abbrev main_call2_call0_call0_c_41 : Ref sig .tc := ⟨.hbm, 489, rfl⟩
abbrev main_call2_call0_call0_v159 : Ref sig .tc := ⟨.hbm, 490, rfl⟩
abbrev main_call2_call0_call0_v160 : Ref sig .tc := ⟨.hbm, 491, rfl⟩
abbrev main_call2_call0_call0_v161 : Ref sig .tc := ⟨.hbm, 492, rfl⟩
abbrev main_call2_call0_call0_v162 : Ref sig .tc := ⟨.hbm, 493, rfl⟩
abbrev main_call2_call0_call0_v163 : Ref sig .tc := ⟨.hbm, 494, rfl⟩
abbrev main_call2_call0_call0_c_42 : Ref sig .tc := ⟨.hbm, 495, rfl⟩
abbrev main_call2_call0_call0_v164 : Ref sig .tc := ⟨.hbm, 496, rfl⟩
abbrev main_call2_call0_call0_v165 : Ref sig .tc := ⟨.hbm, 497, rfl⟩
abbrev main_call2_call0_call0_c_43 : Ref sig .tc := ⟨.hbm, 498, rfl⟩
abbrev main_call2_call0_call0_v166 : Ref sig .tc := ⟨.hbm, 499, rfl⟩
abbrev main_call2_call0_call0_v167 : Ref sig .tc := ⟨.hbm, 500, rfl⟩
abbrev main_call2_call0_call0_v168 : Ref sig .tc := ⟨.hbm, 501, rfl⟩
abbrev main_call2_call0_call0_v169 : Ref sig .tc := ⟨.hbm, 502, rfl⟩
abbrev main_call2_call0_call0_v170 : Ref sig .tc := ⟨.hbm, 503, rfl⟩
abbrev main_call2_call0_v19_0 : Ref sig .tc := ⟨.hbm, 504, rfl⟩
abbrev main_call2_call0_call0_v172 : Ref sig .tc := ⟨.hbm, 505, rfl⟩
abbrev main_call2_call0_call0_v173 : Ref sig .tc := ⟨.hbm, 506, rfl⟩
abbrev main_call2_call0_call0_c_44 : Ref sig .tc := ⟨.hbm, 507, rfl⟩
abbrev main_call2_call0_call0_v174 : Ref sig .tc := ⟨.hbm, 508, rfl⟩
abbrev main_call2_call0_v19_1 : Ref sig .tc := ⟨.hbm, 509, rfl⟩
abbrev main_call2_call0_v20 : Ref sig .tc := ⟨.hbm, 510, rfl⟩
abbrev main_call2_call0_c_2 : Ref sig .tc := ⟨.hbm, 511, rfl⟩
abbrev main_call2_call0_v21 : Ref sig .tc := ⟨.hbm, 512, rfl⟩
abbrev main_call2_call0_v22 : Ref sig .tc := ⟨.hbm, 513, rfl⟩
abbrev main_call2_call0_c_3 : Ref sig .tc := ⟨.hbm, 514, rfl⟩
abbrev main_call2_call0_v23 : Ref sig .tc := ⟨.hbm, 515, rfl⟩
abbrev main_call2_call0_v24 : Ref sig .tc := ⟨.hbm, 516, rfl⟩
abbrev main_call2_call0_v25 : Ref sig .tc := ⟨.hbm, 517, rfl⟩
abbrev main_call2_call0_cst : Ref sig .tc := ⟨.hbm, 518, rfl⟩
abbrev main_call2_call0_v26 : Ref sig .tc := ⟨.hbm, 519, rfl⟩
abbrev main_call2_call0_v27 : Ref sig .tc := ⟨.hbm, 520, rfl⟩
abbrev main_call2_call0_v28 : Ref sig .tc := ⟨.hbm, 521, rfl⟩
abbrev main_call2_call0_v29 : Ref sig .tc := ⟨.hbm, 522, rfl⟩
abbrev main_call2_call0_v30 : Ref sig .tc := ⟨.hbm, 523, rfl⟩
abbrev main_call2_call0_v31 : Ref sig .tc := ⟨.hbm, 524, rfl⟩
abbrev main_call2_call0_v32 : Ref sig .tc := ⟨.hbm, 525, rfl⟩
abbrev main_call2_call0_v33 : Ref sig .tc := ⟨.hbm, 526, rfl⟩
abbrev main_call2_v0 : Ref sig .tc := ⟨.hbm, 527, rfl⟩
abbrev main_v18 : Ref sig .tc := ⟨.hbm, 528, rfl⟩
abbrev main_c_3 : Ref sig .tc := ⟨.hbm, 529, rfl⟩
abbrev main_call3_v0 : Ref sig .tc := ⟨.hbm, 530, rfl⟩
abbrev main_v19 : Ref sig .tc := ⟨.hbm, 531, rfl⟩
abbrev main_cst_4 : Ref sig .tc := ⟨.hbm, 532, rfl⟩
abbrev main_call4_cst : Ref sig .tc := ⟨.hbm, 533, rfl⟩
abbrev main_call4_cst_0 : Ref sig .tc := ⟨.hbm, 534, rfl⟩
abbrev main_call4_call0_v0 : Ref sig .tc := ⟨.hbm, 535, rfl⟩
abbrev main_call4_call0_v1 : Ref sig .tc := ⟨.hbm, 536, rfl⟩
abbrev main_call4_call0_v2 : Ref sig .tc := ⟨.hbm, 537, rfl⟩
abbrev main_call4_call0_v3 : Ref sig .tc := ⟨.hbm, 538, rfl⟩
abbrev main_call4_call0_v4 : Ref sig .tc := ⟨.hbm, 539, rfl⟩
abbrev main_call4_call0_v5 : Ref sig .tc := ⟨.hbm, 540, rfl⟩
abbrev main_call4_call0_v6 : Ref sig .tc := ⟨.hbm, 541, rfl⟩
abbrev main_call4_call0_v7 : Ref sig .tc := ⟨.hbm, 542, rfl⟩
abbrev main_call4_call0_v8 : Ref sig .tc := ⟨.hbm, 543, rfl⟩
abbrev main_call4_call0_v9 : Ref sig .tc := ⟨.hbm, 544, rfl⟩
abbrev main_call4_call0_c : Ref sig .tc := ⟨.hbm, 545, rfl⟩
abbrev main_call4_call0_v10 : Ref sig .tc := ⟨.hbm, 546, rfl⟩
abbrev main_call4_call0_v11 : Ref sig .tc := ⟨.hbm, 547, rfl⟩
abbrev main_call4_call0_c_0 : Ref sig .tc := ⟨.hbm, 548, rfl⟩
abbrev main_call4_call0_v12 : Ref sig .tc := ⟨.hbm, 549, rfl⟩
abbrev main_call4_call0_v13 : Ref sig .tc := ⟨.hbm, 550, rfl⟩
abbrev main_call4_call0_v14 : Ref sig .tc := ⟨.hbm, 551, rfl⟩
abbrev main_call4_call0_c_1 : Ref sig .tc := ⟨.hbm, 552, rfl⟩
abbrev main_call4_call0_v15 : Ref sig .tc := ⟨.hbm, 553, rfl⟩
abbrev main_call4_call0_v16 : Ref sig .tc := ⟨.hbm, 554, rfl⟩
abbrev main_call4_call0_v17 : Ref sig .tc := ⟨.hbm, 555, rfl⟩
abbrev main_call4_call0_v18 : Ref sig .tc := ⟨.hbm, 556, rfl⟩
abbrev main_call4_call0_call0_v0 : Ref sig .tc := ⟨.hbm, 557, rfl⟩
abbrev main_call4_call0_call0_c : Ref sig .tc := ⟨.hbm, 558, rfl⟩
abbrev main_call4_call0_call0_v1 : Ref sig .tc := ⟨.hbm, 559, rfl⟩
abbrev main_call4_call0_call0_v2 : Ref sig .tc := ⟨.hbm, 560, rfl⟩
abbrev main_call4_call0_call0_v3 : Ref sig .tc := ⟨.hbm, 561, rfl⟩
abbrev main_call4_call0_call0_v4 : Ref sig .tc := ⟨.hbm, 562, rfl⟩
abbrev main_call4_call0_call0_v5 : Ref sig .tc := ⟨.hbm, 563, rfl⟩
abbrev main_call4_call0_call0_v6 : Ref sig .tc := ⟨.hbm, 564, rfl⟩
abbrev main_call4_call0_call0_c_0 : Ref sig .tc := ⟨.hbm, 565, rfl⟩
abbrev main_call4_call0_call0_v7 : Ref sig .tc := ⟨.hbm, 566, rfl⟩
abbrev main_call4_call0_call0_v8 : Ref sig .tc := ⟨.hbm, 567, rfl⟩
abbrev main_call4_call0_call0_c_1 : Ref sig .tc := ⟨.hbm, 568, rfl⟩
abbrev main_call4_call0_call0_v9 : Ref sig .tc := ⟨.hbm, 569, rfl⟩
abbrev main_call4_call0_call0_v10 : Ref sig .tc := ⟨.hbm, 570, rfl⟩
abbrev main_call4_call0_call0_v11 : Ref sig .tc := ⟨.hbm, 571, rfl⟩
abbrev main_call4_call0_call0_v12 : Ref sig .tc := ⟨.hbm, 572, rfl⟩
abbrev main_call4_call0_call0_v13 : Ref sig .tc := ⟨.hbm, 573, rfl⟩
abbrev main_call4_call0_call0_c_2 : Ref sig .tc := ⟨.hbm, 574, rfl⟩
abbrev main_call4_call0_call0_v14 : Ref sig .tc := ⟨.hbm, 575, rfl⟩
abbrev main_call4_call0_call0_v15 : Ref sig .tc := ⟨.hbm, 576, rfl⟩
abbrev main_call4_call0_call0_c_3 : Ref sig .tc := ⟨.hbm, 577, rfl⟩
abbrev main_call4_call0_call0_v16 : Ref sig .tc := ⟨.hbm, 578, rfl⟩
abbrev main_call4_call0_call0_v17 : Ref sig .tc := ⟨.hbm, 579, rfl⟩
abbrev main_call4_call0_call0_v18 : Ref sig .tc := ⟨.hbm, 580, rfl⟩
abbrev main_call4_call0_call0_v19 : Ref sig .tc := ⟨.hbm, 581, rfl⟩
abbrev main_call4_call0_call0_v20 : Ref sig .tc := ⟨.hbm, 582, rfl⟩
abbrev main_call4_call0_call0_c_4 : Ref sig .tc := ⟨.hbm, 583, rfl⟩
abbrev main_call4_call0_call0_v21 : Ref sig .tc := ⟨.hbm, 584, rfl⟩
abbrev main_call4_call0_call0_v22 : Ref sig .tc := ⟨.hbm, 585, rfl⟩
abbrev main_call4_call0_call0_c_5 : Ref sig .tc := ⟨.hbm, 586, rfl⟩
abbrev main_call4_call0_call0_v23 : Ref sig .tc := ⟨.hbm, 587, rfl⟩
abbrev main_call4_call0_call0_v24 : Ref sig .tc := ⟨.hbm, 588, rfl⟩
abbrev main_call4_call0_call0_v25 : Ref sig .tc := ⟨.hbm, 589, rfl⟩
abbrev main_call4_call0_call0_v26 : Ref sig .tc := ⟨.hbm, 590, rfl⟩
abbrev main_call4_call0_call0_v27 : Ref sig .tc := ⟨.hbm, 591, rfl⟩
abbrev main_call4_call0_call0_c_6 : Ref sig .tc := ⟨.hbm, 592, rfl⟩
abbrev main_call4_call0_call0_v28 : Ref sig .tc := ⟨.hbm, 593, rfl⟩
abbrev main_call4_call0_call0_v29 : Ref sig .tc := ⟨.hbm, 594, rfl⟩
abbrev main_call4_call0_call0_c_7 : Ref sig .tc := ⟨.hbm, 595, rfl⟩
abbrev main_call4_call0_call0_v30 : Ref sig .tc := ⟨.hbm, 596, rfl⟩
abbrev main_call4_call0_call0_v31 : Ref sig .tc := ⟨.hbm, 597, rfl⟩
abbrev main_call4_call0_call0_v32 : Ref sig .tc := ⟨.hbm, 598, rfl⟩
abbrev main_call4_call0_call0_v33 : Ref sig .tc := ⟨.hbm, 599, rfl⟩
abbrev main_call4_call0_call0_v34 : Ref sig .tc := ⟨.hbm, 600, rfl⟩
abbrev main_call4_call0_call0_v35 : Ref sig .tc := ⟨.hbm, 601, rfl⟩
abbrev main_call4_call0_call0_v36 : Ref sig .tc := ⟨.hbm, 602, rfl⟩
abbrev main_call4_call0_call0_v37 : Ref sig .tc := ⟨.hbm, 603, rfl⟩
abbrev main_call4_call0_call0_c_8 : Ref sig .tc := ⟨.hbm, 604, rfl⟩
abbrev main_call4_call0_call0_v38 : Ref sig .tc := ⟨.hbm, 605, rfl⟩
abbrev main_call4_call0_call0_v39 : Ref sig .tc := ⟨.hbm, 606, rfl⟩
abbrev main_call4_call0_call0_v40 : Ref sig .tc := ⟨.hbm, 607, rfl⟩
abbrev main_call4_call0_call0_c_9 : Ref sig .tc := ⟨.hbm, 608, rfl⟩
abbrev main_call4_call0_call0_v41 : Ref sig .tc := ⟨.hbm, 609, rfl⟩
abbrev main_call4_call0_call0_v42 : Ref sig .tc := ⟨.hbm, 610, rfl⟩
abbrev main_call4_call0_call0_c_10 : Ref sig .tc := ⟨.hbm, 611, rfl⟩
abbrev main_call4_call0_call0_v43 : Ref sig .tc := ⟨.hbm, 612, rfl⟩
abbrev main_call4_call0_call0_v44 : Ref sig .tc := ⟨.hbm, 613, rfl⟩
abbrev main_call4_call0_call0_v45 : Ref sig .tc := ⟨.hbm, 614, rfl⟩
abbrev main_call4_call0_call0_v46 : Ref sig .tc := ⟨.hbm, 615, rfl⟩
abbrev main_call4_call0_call0_v47 : Ref sig .tc := ⟨.hbm, 616, rfl⟩
abbrev main_call4_call0_call0_c_11 : Ref sig .tc := ⟨.hbm, 617, rfl⟩
abbrev main_call4_call0_call0_v48 : Ref sig .tc := ⟨.hbm, 618, rfl⟩
abbrev main_call4_call0_call0_v49 : Ref sig .tc := ⟨.hbm, 619, rfl⟩
abbrev main_call4_call0_call0_c_12 : Ref sig .tc := ⟨.hbm, 620, rfl⟩
abbrev main_call4_call0_call0_v50 : Ref sig .tc := ⟨.hbm, 621, rfl⟩
abbrev main_call4_call0_call0_v51 : Ref sig .tc := ⟨.hbm, 622, rfl⟩
abbrev main_call4_call0_call0_v52 : Ref sig .tc := ⟨.hbm, 623, rfl⟩
abbrev main_call4_call0_call0_v53 : Ref sig .tc := ⟨.hbm, 624, rfl⟩
abbrev main_call4_call0_call0_v54 : Ref sig .tc := ⟨.hbm, 625, rfl⟩
abbrev main_call4_call0_call0_c_13 : Ref sig .tc := ⟨.hbm, 626, rfl⟩
abbrev main_call4_call0_call0_v55 : Ref sig .tc := ⟨.hbm, 627, rfl⟩
abbrev main_call4_call0_call0_v56 : Ref sig .tc := ⟨.hbm, 628, rfl⟩
abbrev main_call4_call0_call0_c_14 : Ref sig .tc := ⟨.hbm, 629, rfl⟩
abbrev main_call4_call0_call0_v57 : Ref sig .tc := ⟨.hbm, 630, rfl⟩
abbrev main_call4_call0_call0_v58 : Ref sig .tc := ⟨.hbm, 631, rfl⟩
abbrev main_call4_call0_call0_v59 : Ref sig .tc := ⟨.hbm, 632, rfl⟩
abbrev main_call4_call0_call0_v60 : Ref sig .tc := ⟨.hbm, 633, rfl⟩
abbrev main_call4_call0_call0_v61 : Ref sig .tc := ⟨.hbm, 634, rfl⟩
abbrev main_call4_call0_call0_c_15 : Ref sig .tc := ⟨.hbm, 635, rfl⟩
abbrev main_call4_call0_call0_v62 : Ref sig .tc := ⟨.hbm, 636, rfl⟩
abbrev main_call4_call0_call0_v63 : Ref sig .tc := ⟨.hbm, 637, rfl⟩
abbrev main_call4_call0_call0_c_16 : Ref sig .tc := ⟨.hbm, 638, rfl⟩
abbrev main_call4_call0_call0_v64 : Ref sig .tc := ⟨.hbm, 639, rfl⟩
abbrev main_call4_call0_call0_v65 : Ref sig .tc := ⟨.hbm, 640, rfl⟩
abbrev main_call4_call0_call0_v66 : Ref sig .tc := ⟨.hbm, 641, rfl⟩
abbrev main_call4_call0_call0_v67 : Ref sig .tc := ⟨.hbm, 642, rfl⟩
abbrev main_call4_call0_call0_v68 : Ref sig .tc := ⟨.hbm, 643, rfl⟩
abbrev main_call4_call0_call0_v69 : Ref sig .tc := ⟨.hbm, 644, rfl⟩
abbrev main_call4_call0_call0_v70 : Ref sig .tc := ⟨.hbm, 645, rfl⟩
abbrev main_call4_call0_call0_v71 : Ref sig .tc := ⟨.hbm, 646, rfl⟩
abbrev main_call4_call0_call0_c_17 : Ref sig .tc := ⟨.hbm, 647, rfl⟩
abbrev main_call4_call0_call0_v72 : Ref sig .tc := ⟨.hbm, 648, rfl⟩
abbrev main_call4_call0_call0_v73 : Ref sig .tc := ⟨.hbm, 649, rfl⟩
abbrev main_call4_call0_call0_v74 : Ref sig .tc := ⟨.hbm, 650, rfl⟩
abbrev main_call4_call0_call0_c_18 : Ref sig .tc := ⟨.hbm, 651, rfl⟩
abbrev main_call4_call0_call0_v75 : Ref sig .tc := ⟨.hbm, 652, rfl⟩
abbrev main_call4_call0_call0_v76 : Ref sig .tc := ⟨.hbm, 653, rfl⟩
abbrev main_call4_call0_call0_c_19 : Ref sig .tc := ⟨.hbm, 654, rfl⟩
abbrev main_call4_call0_call0_v77 : Ref sig .tc := ⟨.hbm, 655, rfl⟩
abbrev main_call4_call0_call0_v78 : Ref sig .tc := ⟨.hbm, 656, rfl⟩
abbrev main_call4_call0_call0_v79 : Ref sig .tc := ⟨.hbm, 657, rfl⟩
abbrev main_call4_call0_call0_v80 : Ref sig .tc := ⟨.hbm, 658, rfl⟩
abbrev main_call4_call0_call0_v81 : Ref sig .tc := ⟨.hbm, 659, rfl⟩
abbrev main_call4_call0_call0_c_20 : Ref sig .tc := ⟨.hbm, 660, rfl⟩
abbrev main_call4_call0_call0_v82 : Ref sig .tc := ⟨.hbm, 661, rfl⟩
abbrev main_call4_call0_call0_v83 : Ref sig .tc := ⟨.hbm, 662, rfl⟩
abbrev main_call4_call0_call0_c_21 : Ref sig .tc := ⟨.hbm, 663, rfl⟩
abbrev main_call4_call0_call0_v84 : Ref sig .tc := ⟨.hbm, 664, rfl⟩
abbrev main_call4_call0_call0_v85 : Ref sig .tc := ⟨.hbm, 665, rfl⟩
abbrev main_call4_call0_call0_v86 : Ref sig .tc := ⟨.hbm, 666, rfl⟩
abbrev main_call4_call0_call0_v87 : Ref sig .tc := ⟨.hbm, 667, rfl⟩
abbrev main_call4_call0_call0_v88 : Ref sig .tc := ⟨.hbm, 668, rfl⟩
abbrev main_call4_call0_call0_c_22 : Ref sig .tc := ⟨.hbm, 669, rfl⟩
abbrev main_call4_call0_call0_v89 : Ref sig .tc := ⟨.hbm, 670, rfl⟩
abbrev main_call4_call0_call0_v90 : Ref sig .tc := ⟨.hbm, 671, rfl⟩
abbrev main_call4_call0_call0_c_23 : Ref sig .tc := ⟨.hbm, 672, rfl⟩
abbrev main_call4_call0_call0_v91 : Ref sig .tc := ⟨.hbm, 673, rfl⟩
abbrev main_call4_call0_call0_v92 : Ref sig .tc := ⟨.hbm, 674, rfl⟩
abbrev main_call4_call0_call0_v93 : Ref sig .tc := ⟨.hbm, 675, rfl⟩
abbrev main_call4_call0_call0_v94 : Ref sig .tc := ⟨.hbm, 676, rfl⟩
abbrev main_call4_call0_call0_v95 : Ref sig .tc := ⟨.hbm, 677, rfl⟩
abbrev main_call4_call0_call0_c_24 : Ref sig .tc := ⟨.hbm, 678, rfl⟩
abbrev main_call4_call0_call0_v96 : Ref sig .tc := ⟨.hbm, 679, rfl⟩
abbrev main_call4_call0_call0_v97 : Ref sig .tc := ⟨.hbm, 680, rfl⟩
abbrev main_call4_call0_call0_c_25 : Ref sig .tc := ⟨.hbm, 681, rfl⟩
abbrev main_call4_call0_call0_v98 : Ref sig .tc := ⟨.hbm, 682, rfl⟩
abbrev main_call4_call0_call0_v99 : Ref sig .tc := ⟨.hbm, 683, rfl⟩
abbrev main_call4_call0_call0_v100 : Ref sig .tc := ⟨.hbm, 684, rfl⟩
abbrev main_call4_call0_call0_v101 : Ref sig .tc := ⟨.hbm, 685, rfl⟩
abbrev main_call4_call0_call0_v102 : Ref sig .tc := ⟨.hbm, 686, rfl⟩
abbrev main_call4_call0_call0_v103 : Ref sig .tc := ⟨.hbm, 687, rfl⟩
abbrev main_call4_call0_call0_v104 : Ref sig .tc := ⟨.hbm, 688, rfl⟩
abbrev main_call4_call0_call0_v105 : Ref sig .tc := ⟨.hbm, 689, rfl⟩
abbrev main_call4_call0_call0_c_26 : Ref sig .tc := ⟨.hbm, 690, rfl⟩
abbrev main_call4_call0_call0_v106 : Ref sig .tc := ⟨.hbm, 691, rfl⟩
abbrev main_call4_call0_call0_v107 : Ref sig .tc := ⟨.hbm, 692, rfl⟩
abbrev main_call4_call0_call0_v108 : Ref sig .tc := ⟨.hbm, 693, rfl⟩
abbrev main_call4_call0_call0_c_27 : Ref sig .tc := ⟨.hbm, 694, rfl⟩
abbrev main_call4_call0_call0_v109 : Ref sig .tc := ⟨.hbm, 695, rfl⟩
abbrev main_call4_call0_call0_v110 : Ref sig .tc := ⟨.hbm, 696, rfl⟩
abbrev main_call4_call0_call0_c_28 : Ref sig .tc := ⟨.hbm, 697, rfl⟩
abbrev main_call4_call0_call0_v111 : Ref sig .tc := ⟨.hbm, 698, rfl⟩
abbrev main_call4_call0_call0_v112 : Ref sig .tc := ⟨.hbm, 699, rfl⟩
abbrev main_call4_call0_call0_v113 : Ref sig .tc := ⟨.hbm, 700, rfl⟩
abbrev main_call4_call0_call0_v114 : Ref sig .tc := ⟨.hbm, 701, rfl⟩
abbrev main_call4_call0_call0_v115 : Ref sig .tc := ⟨.hbm, 702, rfl⟩
abbrev main_call4_call0_call0_c_29 : Ref sig .tc := ⟨.hbm, 703, rfl⟩
abbrev main_call4_call0_call0_v116 : Ref sig .tc := ⟨.hbm, 704, rfl⟩
abbrev main_call4_call0_call0_v117 : Ref sig .tc := ⟨.hbm, 705, rfl⟩
abbrev main_call4_call0_call0_c_30 : Ref sig .tc := ⟨.hbm, 706, rfl⟩
abbrev main_call4_call0_call0_v118 : Ref sig .tc := ⟨.hbm, 707, rfl⟩
abbrev main_call4_call0_call0_v119 : Ref sig .tc := ⟨.hbm, 708, rfl⟩
abbrev main_call4_call0_call0_v120 : Ref sig .tc := ⟨.hbm, 709, rfl⟩
abbrev main_call4_call0_call0_v121 : Ref sig .tc := ⟨.hbm, 710, rfl⟩
abbrev main_call4_call0_call0_v122 : Ref sig .tc := ⟨.hbm, 711, rfl⟩
abbrev main_call4_call0_call0_c_31 : Ref sig .tc := ⟨.hbm, 712, rfl⟩
abbrev main_call4_call0_call0_v123 : Ref sig .tc := ⟨.hbm, 713, rfl⟩
abbrev main_call4_call0_call0_v124 : Ref sig .tc := ⟨.hbm, 714, rfl⟩
abbrev main_call4_call0_call0_c_32 : Ref sig .tc := ⟨.hbm, 715, rfl⟩
abbrev main_call4_call0_call0_v125 : Ref sig .tc := ⟨.hbm, 716, rfl⟩
abbrev main_call4_call0_call0_v126 : Ref sig .tc := ⟨.hbm, 717, rfl⟩
abbrev main_call4_call0_call0_v127 : Ref sig .tc := ⟨.hbm, 718, rfl⟩
abbrev main_call4_call0_call0_v128 : Ref sig .tc := ⟨.hbm, 719, rfl⟩
abbrev main_call4_call0_call0_v129 : Ref sig .tc := ⟨.hbm, 720, rfl⟩
abbrev main_call4_call0_call0_c_33 : Ref sig .tc := ⟨.hbm, 721, rfl⟩
abbrev main_call4_call0_call0_v130 : Ref sig .tc := ⟨.hbm, 722, rfl⟩
abbrev main_call4_call0_call0_v131 : Ref sig .tc := ⟨.hbm, 723, rfl⟩
abbrev main_call4_call0_call0_c_34 : Ref sig .tc := ⟨.hbm, 724, rfl⟩
abbrev main_call4_call0_call0_v132 : Ref sig .tc := ⟨.hbm, 725, rfl⟩
abbrev main_call4_call0_call0_v133 : Ref sig .tc := ⟨.hbm, 726, rfl⟩
abbrev main_call4_call0_call0_v134 : Ref sig .tc := ⟨.hbm, 727, rfl⟩
abbrev main_call4_call0_call0_v135 : Ref sig .tc := ⟨.hbm, 728, rfl⟩
abbrev main_call4_call0_call0_v136 : Ref sig .tc := ⟨.hbm, 729, rfl⟩
abbrev main_call4_call0_call0_v137 : Ref sig .tc := ⟨.hbm, 730, rfl⟩
abbrev main_call4_call0_call0_v138 : Ref sig .tc := ⟨.hbm, 731, rfl⟩
abbrev main_call4_call0_call0_v139 : Ref sig .tc := ⟨.hbm, 732, rfl⟩
abbrev main_call4_call0_call0_c_35 : Ref sig .tc := ⟨.hbm, 733, rfl⟩
abbrev main_call4_call0_call0_v140 : Ref sig .tc := ⟨.hbm, 734, rfl⟩
abbrev main_call4_call0_call0_v141 : Ref sig .tc := ⟨.hbm, 735, rfl⟩
abbrev main_call4_call0_call0_v142 : Ref sig .tc := ⟨.hbm, 736, rfl⟩
abbrev main_call4_call0_call0_c_36 : Ref sig .tc := ⟨.hbm, 737, rfl⟩
abbrev main_call4_call0_call0_v143 : Ref sig .tc := ⟨.hbm, 738, rfl⟩
abbrev main_call4_call0_call0_v144 : Ref sig .tc := ⟨.hbm, 739, rfl⟩
abbrev main_call4_call0_call0_c_37 : Ref sig .tc := ⟨.hbm, 740, rfl⟩
abbrev main_call4_call0_call0_v145 : Ref sig .tc := ⟨.hbm, 741, rfl⟩
abbrev main_call4_call0_call0_v146 : Ref sig .tc := ⟨.hbm, 742, rfl⟩
abbrev main_call4_call0_call0_v147 : Ref sig .tc := ⟨.hbm, 743, rfl⟩
abbrev main_call4_call0_call0_v148 : Ref sig .tc := ⟨.hbm, 744, rfl⟩
abbrev main_call4_call0_call0_v149 : Ref sig .tc := ⟨.hbm, 745, rfl⟩
abbrev main_call4_call0_call0_c_38 : Ref sig .tc := ⟨.hbm, 746, rfl⟩
abbrev main_call4_call0_call0_v150 : Ref sig .tc := ⟨.hbm, 747, rfl⟩
abbrev main_call4_call0_call0_v151 : Ref sig .tc := ⟨.hbm, 748, rfl⟩
abbrev main_call4_call0_call0_c_39 : Ref sig .tc := ⟨.hbm, 749, rfl⟩
abbrev main_call4_call0_call0_v152 : Ref sig .tc := ⟨.hbm, 750, rfl⟩
abbrev main_call4_call0_call0_v153 : Ref sig .tc := ⟨.hbm, 751, rfl⟩
abbrev main_call4_call0_call0_v154 : Ref sig .tc := ⟨.hbm, 752, rfl⟩
abbrev main_call4_call0_call0_v155 : Ref sig .tc := ⟨.hbm, 753, rfl⟩
abbrev main_call4_call0_call0_v156 : Ref sig .tc := ⟨.hbm, 754, rfl⟩
abbrev main_call4_call0_call0_c_40 : Ref sig .tc := ⟨.hbm, 755, rfl⟩
abbrev main_call4_call0_call0_v157 : Ref sig .tc := ⟨.hbm, 756, rfl⟩
abbrev main_call4_call0_call0_v158 : Ref sig .tc := ⟨.hbm, 757, rfl⟩
abbrev main_call4_call0_call0_c_41 : Ref sig .tc := ⟨.hbm, 758, rfl⟩
abbrev main_call4_call0_call0_v159 : Ref sig .tc := ⟨.hbm, 759, rfl⟩
abbrev main_call4_call0_call0_v160 : Ref sig .tc := ⟨.hbm, 760, rfl⟩
abbrev main_call4_call0_call0_v161 : Ref sig .tc := ⟨.hbm, 761, rfl⟩
abbrev main_call4_call0_call0_v162 : Ref sig .tc := ⟨.hbm, 762, rfl⟩
abbrev main_call4_call0_call0_v163 : Ref sig .tc := ⟨.hbm, 763, rfl⟩
abbrev main_call4_call0_call0_c_42 : Ref sig .tc := ⟨.hbm, 764, rfl⟩
abbrev main_call4_call0_call0_v164 : Ref sig .tc := ⟨.hbm, 765, rfl⟩
abbrev main_call4_call0_call0_v165 : Ref sig .tc := ⟨.hbm, 766, rfl⟩
abbrev main_call4_call0_call0_c_43 : Ref sig .tc := ⟨.hbm, 767, rfl⟩
abbrev main_call4_call0_call0_v166 : Ref sig .tc := ⟨.hbm, 768, rfl⟩
abbrev main_call4_call0_call0_v167 : Ref sig .tc := ⟨.hbm, 769, rfl⟩
abbrev main_call4_call0_call0_v168 : Ref sig .tc := ⟨.hbm, 770, rfl⟩
abbrev main_call4_call0_call0_v169 : Ref sig .tc := ⟨.hbm, 771, rfl⟩
abbrev main_call4_call0_call0_v170 : Ref sig .tc := ⟨.hbm, 772, rfl⟩
abbrev main_call4_call0_v19_0 : Ref sig .tc := ⟨.hbm, 773, rfl⟩
abbrev main_call4_call0_call0_v172 : Ref sig .tc := ⟨.hbm, 774, rfl⟩
abbrev main_call4_call0_call0_v173 : Ref sig .tc := ⟨.hbm, 775, rfl⟩
abbrev main_call4_call0_call0_c_44 : Ref sig .tc := ⟨.hbm, 776, rfl⟩
abbrev main_call4_call0_call0_v174 : Ref sig .tc := ⟨.hbm, 777, rfl⟩
abbrev main_call4_call0_v19_1 : Ref sig .tc := ⟨.hbm, 778, rfl⟩
abbrev main_call4_call0_v20 : Ref sig .tc := ⟨.hbm, 779, rfl⟩
abbrev main_call4_call0_c_2 : Ref sig .tc := ⟨.hbm, 780, rfl⟩
abbrev main_call4_call0_v21 : Ref sig .tc := ⟨.hbm, 781, rfl⟩
abbrev main_call4_call0_v22 : Ref sig .tc := ⟨.hbm, 782, rfl⟩
abbrev main_call4_call0_c_3 : Ref sig .tc := ⟨.hbm, 783, rfl⟩
abbrev main_call4_call0_v23 : Ref sig .tc := ⟨.hbm, 784, rfl⟩
abbrev main_call4_call0_v24 : Ref sig .tc := ⟨.hbm, 785, rfl⟩
abbrev main_call4_call0_v25 : Ref sig .tc := ⟨.hbm, 786, rfl⟩
abbrev main_call4_call0_cst : Ref sig .tc := ⟨.hbm, 787, rfl⟩
abbrev main_call4_call0_v26 : Ref sig .tc := ⟨.hbm, 788, rfl⟩
abbrev main_call4_call0_v27 : Ref sig .tc := ⟨.hbm, 789, rfl⟩
abbrev main_call4_call0_v28 : Ref sig .tc := ⟨.hbm, 790, rfl⟩
abbrev main_call4_call0_v29 : Ref sig .tc := ⟨.hbm, 791, rfl⟩
abbrev main_call4_call0_v30 : Ref sig .tc := ⟨.hbm, 792, rfl⟩
abbrev main_call4_call0_v31 : Ref sig .tc := ⟨.hbm, 793, rfl⟩
abbrev main_call4_call0_v32 : Ref sig .tc := ⟨.hbm, 794, rfl⟩
abbrev main_call4_call0_v33 : Ref sig .tc := ⟨.hbm, 795, rfl⟩
abbrev main_call4_v0 : Ref sig .tc := ⟨.hbm, 796, rfl⟩
abbrev main_call4_v1 : Ref sig .tc := ⟨.hbm, 797, rfl⟩
abbrev main_v20 : Ref sig .tc := ⟨.hbm, 798, rfl⟩
abbrev main_v21 : Ref sig .tc := ⟨.hbm, 799, rfl⟩
abbrev main_c_5 : Ref sig .tc := ⟨.hbm, 800, rfl⟩
abbrev main_call5_v0 : Ref sig .tc := ⟨.hbm, 801, rfl⟩
abbrev main_v22 : Ref sig .tc := ⟨.hbm, 802, rfl⟩
abbrev main_cst_6 : Ref sig .tc := ⟨.hbm, 803, rfl⟩
abbrev main_call6_cst : Ref sig .tc := ⟨.hbm, 804, rfl⟩
abbrev main_call6_cst_0 : Ref sig .tc := ⟨.hbm, 805, rfl⟩
abbrev main_call6_call0_v0 : Ref sig .tc := ⟨.hbm, 806, rfl⟩
abbrev main_call6_call0_v1 : Ref sig .tc := ⟨.hbm, 807, rfl⟩
abbrev main_call6_call0_v2 : Ref sig .tc := ⟨.hbm, 808, rfl⟩
abbrev main_call6_call0_v3 : Ref sig .tc := ⟨.hbm, 809, rfl⟩
abbrev main_call6_call0_v4 : Ref sig .tc := ⟨.hbm, 810, rfl⟩
abbrev main_call6_call0_v5 : Ref sig .tc := ⟨.hbm, 811, rfl⟩
abbrev main_call6_call0_v6 : Ref sig .tc := ⟨.hbm, 812, rfl⟩
abbrev main_call6_call0_v7 : Ref sig .tc := ⟨.hbm, 813, rfl⟩
abbrev main_call6_call0_v8 : Ref sig .tc := ⟨.hbm, 814, rfl⟩
abbrev main_call6_call0_v9 : Ref sig .tc := ⟨.hbm, 815, rfl⟩
abbrev main_call6_call0_c : Ref sig .tc := ⟨.hbm, 816, rfl⟩
abbrev main_call6_call0_v10 : Ref sig .tc := ⟨.hbm, 817, rfl⟩
abbrev main_call6_call0_v11 : Ref sig .tc := ⟨.hbm, 818, rfl⟩
abbrev main_call6_call0_c_0 : Ref sig .tc := ⟨.hbm, 819, rfl⟩
abbrev main_call6_call0_v12 : Ref sig .tc := ⟨.hbm, 820, rfl⟩
abbrev main_call6_call0_v13 : Ref sig .tc := ⟨.hbm, 821, rfl⟩
abbrev main_call6_call0_v14 : Ref sig .tc := ⟨.hbm, 822, rfl⟩
abbrev main_call6_call0_c_1 : Ref sig .tc := ⟨.hbm, 823, rfl⟩
abbrev main_call6_call0_v15 : Ref sig .tc := ⟨.hbm, 824, rfl⟩
abbrev main_call6_call0_v16 : Ref sig .tc := ⟨.hbm, 825, rfl⟩
abbrev main_call6_call0_v17 : Ref sig .tc := ⟨.hbm, 826, rfl⟩
abbrev main_call6_call0_v18 : Ref sig .tc := ⟨.hbm, 827, rfl⟩
abbrev main_call6_call0_call0_v0 : Ref sig .tc := ⟨.hbm, 828, rfl⟩
abbrev main_call6_call0_call0_c : Ref sig .tc := ⟨.hbm, 829, rfl⟩
abbrev main_call6_call0_call0_v1 : Ref sig .tc := ⟨.hbm, 830, rfl⟩
abbrev main_call6_call0_call0_v2 : Ref sig .tc := ⟨.hbm, 831, rfl⟩
abbrev main_call6_call0_call0_v3 : Ref sig .tc := ⟨.hbm, 832, rfl⟩
abbrev main_call6_call0_call0_v4 : Ref sig .tc := ⟨.hbm, 833, rfl⟩
abbrev main_call6_call0_call0_v5 : Ref sig .tc := ⟨.hbm, 834, rfl⟩
abbrev main_call6_call0_call0_v6 : Ref sig .tc := ⟨.hbm, 835, rfl⟩
abbrev main_call6_call0_call0_c_0 : Ref sig .tc := ⟨.hbm, 836, rfl⟩
abbrev main_call6_call0_call0_v7 : Ref sig .tc := ⟨.hbm, 837, rfl⟩
abbrev main_call6_call0_call0_v8 : Ref sig .tc := ⟨.hbm, 838, rfl⟩
abbrev main_call6_call0_call0_c_1 : Ref sig .tc := ⟨.hbm, 839, rfl⟩
abbrev main_call6_call0_call0_v9 : Ref sig .tc := ⟨.hbm, 840, rfl⟩
abbrev main_call6_call0_call0_v10 : Ref sig .tc := ⟨.hbm, 841, rfl⟩
abbrev main_call6_call0_call0_v11 : Ref sig .tc := ⟨.hbm, 842, rfl⟩
abbrev main_call6_call0_call0_v12 : Ref sig .tc := ⟨.hbm, 843, rfl⟩
abbrev main_call6_call0_call0_v13 : Ref sig .tc := ⟨.hbm, 844, rfl⟩
abbrev main_call6_call0_call0_c_2 : Ref sig .tc := ⟨.hbm, 845, rfl⟩
abbrev main_call6_call0_call0_v14 : Ref sig .tc := ⟨.hbm, 846, rfl⟩
abbrev main_call6_call0_call0_v15 : Ref sig .tc := ⟨.hbm, 847, rfl⟩
abbrev main_call6_call0_call0_c_3 : Ref sig .tc := ⟨.hbm, 848, rfl⟩
abbrev main_call6_call0_call0_v16 : Ref sig .tc := ⟨.hbm, 849, rfl⟩
abbrev main_call6_call0_call0_v17 : Ref sig .tc := ⟨.hbm, 850, rfl⟩
abbrev main_call6_call0_call0_v18 : Ref sig .tc := ⟨.hbm, 851, rfl⟩
abbrev main_call6_call0_call0_v19 : Ref sig .tc := ⟨.hbm, 852, rfl⟩
abbrev main_call6_call0_call0_v20 : Ref sig .tc := ⟨.hbm, 853, rfl⟩
abbrev main_call6_call0_call0_c_4 : Ref sig .tc := ⟨.hbm, 854, rfl⟩
abbrev main_call6_call0_call0_v21 : Ref sig .tc := ⟨.hbm, 855, rfl⟩
abbrev main_call6_call0_call0_v22 : Ref sig .tc := ⟨.hbm, 856, rfl⟩
abbrev main_call6_call0_call0_c_5 : Ref sig .tc := ⟨.hbm, 857, rfl⟩
abbrev main_call6_call0_call0_v23 : Ref sig .tc := ⟨.hbm, 858, rfl⟩
abbrev main_call6_call0_call0_v24 : Ref sig .tc := ⟨.hbm, 859, rfl⟩
abbrev main_call6_call0_call0_v25 : Ref sig .tc := ⟨.hbm, 860, rfl⟩
abbrev main_call6_call0_call0_v26 : Ref sig .tc := ⟨.hbm, 861, rfl⟩
abbrev main_call6_call0_call0_v27 : Ref sig .tc := ⟨.hbm, 862, rfl⟩
abbrev main_call6_call0_call0_c_6 : Ref sig .tc := ⟨.hbm, 863, rfl⟩
abbrev main_call6_call0_call0_v28 : Ref sig .tc := ⟨.hbm, 864, rfl⟩
abbrev main_call6_call0_call0_v29 : Ref sig .tc := ⟨.hbm, 865, rfl⟩
abbrev main_call6_call0_call0_c_7 : Ref sig .tc := ⟨.hbm, 866, rfl⟩
abbrev main_call6_call0_call0_v30 : Ref sig .tc := ⟨.hbm, 867, rfl⟩
abbrev main_call6_call0_call0_v31 : Ref sig .tc := ⟨.hbm, 868, rfl⟩
abbrev main_call6_call0_call0_v32 : Ref sig .tc := ⟨.hbm, 869, rfl⟩
abbrev main_call6_call0_call0_v33 : Ref sig .tc := ⟨.hbm, 870, rfl⟩
abbrev main_call6_call0_call0_v34 : Ref sig .tc := ⟨.hbm, 871, rfl⟩
abbrev main_call6_call0_call0_v35 : Ref sig .tc := ⟨.hbm, 872, rfl⟩
abbrev main_call6_call0_call0_v36 : Ref sig .tc := ⟨.hbm, 873, rfl⟩
abbrev main_call6_call0_call0_v37 : Ref sig .tc := ⟨.hbm, 874, rfl⟩
abbrev main_call6_call0_call0_c_8 : Ref sig .tc := ⟨.hbm, 875, rfl⟩
abbrev main_call6_call0_call0_v38 : Ref sig .tc := ⟨.hbm, 876, rfl⟩
abbrev main_call6_call0_call0_v39 : Ref sig .tc := ⟨.hbm, 877, rfl⟩
abbrev main_call6_call0_call0_v40 : Ref sig .tc := ⟨.hbm, 878, rfl⟩
abbrev main_call6_call0_call0_c_9 : Ref sig .tc := ⟨.hbm, 879, rfl⟩
abbrev main_call6_call0_call0_v41 : Ref sig .tc := ⟨.hbm, 880, rfl⟩
abbrev main_call6_call0_call0_v42 : Ref sig .tc := ⟨.hbm, 881, rfl⟩
abbrev main_call6_call0_call0_c_10 : Ref sig .tc := ⟨.hbm, 882, rfl⟩
abbrev main_call6_call0_call0_v43 : Ref sig .tc := ⟨.hbm, 883, rfl⟩
abbrev main_call6_call0_call0_v44 : Ref sig .tc := ⟨.hbm, 884, rfl⟩
abbrev main_call6_call0_call0_v45 : Ref sig .tc := ⟨.hbm, 885, rfl⟩
abbrev main_call6_call0_call0_v46 : Ref sig .tc := ⟨.hbm, 886, rfl⟩
abbrev main_call6_call0_call0_v47 : Ref sig .tc := ⟨.hbm, 887, rfl⟩
abbrev main_call6_call0_call0_c_11 : Ref sig .tc := ⟨.hbm, 888, rfl⟩
abbrev main_call6_call0_call0_v48 : Ref sig .tc := ⟨.hbm, 889, rfl⟩
abbrev main_call6_call0_call0_v49 : Ref sig .tc := ⟨.hbm, 890, rfl⟩
abbrev main_call6_call0_call0_c_12 : Ref sig .tc := ⟨.hbm, 891, rfl⟩
abbrev main_call6_call0_call0_v50 : Ref sig .tc := ⟨.hbm, 892, rfl⟩
abbrev main_call6_call0_call0_v51 : Ref sig .tc := ⟨.hbm, 893, rfl⟩
abbrev main_call6_call0_call0_v52 : Ref sig .tc := ⟨.hbm, 894, rfl⟩
abbrev main_call6_call0_call0_v53 : Ref sig .tc := ⟨.hbm, 895, rfl⟩
abbrev main_call6_call0_call0_v54 : Ref sig .tc := ⟨.hbm, 896, rfl⟩
abbrev main_call6_call0_call0_c_13 : Ref sig .tc := ⟨.hbm, 897, rfl⟩
abbrev main_call6_call0_call0_v55 : Ref sig .tc := ⟨.hbm, 898, rfl⟩
abbrev main_call6_call0_call0_v56 : Ref sig .tc := ⟨.hbm, 899, rfl⟩
abbrev main_call6_call0_call0_c_14 : Ref sig .tc := ⟨.hbm, 900, rfl⟩
abbrev main_call6_call0_call0_v57 : Ref sig .tc := ⟨.hbm, 901, rfl⟩
abbrev main_call6_call0_call0_v58 : Ref sig .tc := ⟨.hbm, 902, rfl⟩
abbrev main_call6_call0_call0_v59 : Ref sig .tc := ⟨.hbm, 903, rfl⟩
abbrev main_call6_call0_call0_v60 : Ref sig .tc := ⟨.hbm, 904, rfl⟩
abbrev main_call6_call0_call0_v61 : Ref sig .tc := ⟨.hbm, 905, rfl⟩
abbrev main_call6_call0_call0_c_15 : Ref sig .tc := ⟨.hbm, 906, rfl⟩
abbrev main_call6_call0_call0_v62 : Ref sig .tc := ⟨.hbm, 907, rfl⟩
abbrev main_call6_call0_call0_v63 : Ref sig .tc := ⟨.hbm, 908, rfl⟩
abbrev main_call6_call0_call0_c_16 : Ref sig .tc := ⟨.hbm, 909, rfl⟩
abbrev main_call6_call0_call0_v64 : Ref sig .tc := ⟨.hbm, 910, rfl⟩
abbrev main_call6_call0_call0_v65 : Ref sig .tc := ⟨.hbm, 911, rfl⟩
abbrev main_call6_call0_call0_v66 : Ref sig .tc := ⟨.hbm, 912, rfl⟩
abbrev main_call6_call0_call0_v67 : Ref sig .tc := ⟨.hbm, 913, rfl⟩
abbrev main_call6_call0_call0_v68 : Ref sig .tc := ⟨.hbm, 914, rfl⟩
abbrev main_call6_call0_call0_v69 : Ref sig .tc := ⟨.hbm, 915, rfl⟩
abbrev main_call6_call0_call0_v70 : Ref sig .tc := ⟨.hbm, 916, rfl⟩
abbrev main_call6_call0_call0_v71 : Ref sig .tc := ⟨.hbm, 917, rfl⟩
abbrev main_call6_call0_call0_c_17 : Ref sig .tc := ⟨.hbm, 918, rfl⟩
abbrev main_call6_call0_call0_v72 : Ref sig .tc := ⟨.hbm, 919, rfl⟩
abbrev main_call6_call0_call0_v73 : Ref sig .tc := ⟨.hbm, 920, rfl⟩
abbrev main_call6_call0_call0_v74 : Ref sig .tc := ⟨.hbm, 921, rfl⟩
abbrev main_call6_call0_call0_c_18 : Ref sig .tc := ⟨.hbm, 922, rfl⟩
abbrev main_call6_call0_call0_v75 : Ref sig .tc := ⟨.hbm, 923, rfl⟩
abbrev main_call6_call0_call0_v76 : Ref sig .tc := ⟨.hbm, 924, rfl⟩
abbrev main_call6_call0_call0_c_19 : Ref sig .tc := ⟨.hbm, 925, rfl⟩
abbrev main_call6_call0_call0_v77 : Ref sig .tc := ⟨.hbm, 926, rfl⟩
abbrev main_call6_call0_call0_v78 : Ref sig .tc := ⟨.hbm, 927, rfl⟩
abbrev main_call6_call0_call0_v79 : Ref sig .tc := ⟨.hbm, 928, rfl⟩
abbrev main_call6_call0_call0_v80 : Ref sig .tc := ⟨.hbm, 929, rfl⟩
abbrev main_call6_call0_call0_v81 : Ref sig .tc := ⟨.hbm, 930, rfl⟩
abbrev main_call6_call0_call0_c_20 : Ref sig .tc := ⟨.hbm, 931, rfl⟩
abbrev main_call6_call0_call0_v82 : Ref sig .tc := ⟨.hbm, 932, rfl⟩
abbrev main_call6_call0_call0_v83 : Ref sig .tc := ⟨.hbm, 933, rfl⟩
abbrev main_call6_call0_call0_c_21 : Ref sig .tc := ⟨.hbm, 934, rfl⟩
abbrev main_call6_call0_call0_v84 : Ref sig .tc := ⟨.hbm, 935, rfl⟩
abbrev main_call6_call0_call0_v85 : Ref sig .tc := ⟨.hbm, 936, rfl⟩
abbrev main_call6_call0_call0_v86 : Ref sig .tc := ⟨.hbm, 937, rfl⟩
abbrev main_call6_call0_call0_v87 : Ref sig .tc := ⟨.hbm, 938, rfl⟩
abbrev main_call6_call0_call0_v88 : Ref sig .tc := ⟨.hbm, 939, rfl⟩
abbrev main_call6_call0_call0_c_22 : Ref sig .tc := ⟨.hbm, 940, rfl⟩
abbrev main_call6_call0_call0_v89 : Ref sig .tc := ⟨.hbm, 941, rfl⟩
abbrev main_call6_call0_call0_v90 : Ref sig .tc := ⟨.hbm, 942, rfl⟩
abbrev main_call6_call0_call0_c_23 : Ref sig .tc := ⟨.hbm, 943, rfl⟩
abbrev main_call6_call0_call0_v91 : Ref sig .tc := ⟨.hbm, 944, rfl⟩
abbrev main_call6_call0_call0_v92 : Ref sig .tc := ⟨.hbm, 945, rfl⟩
abbrev main_call6_call0_call0_v93 : Ref sig .tc := ⟨.hbm, 946, rfl⟩
abbrev main_call6_call0_call0_v94 : Ref sig .tc := ⟨.hbm, 947, rfl⟩
abbrev main_call6_call0_call0_v95 : Ref sig .tc := ⟨.hbm, 948, rfl⟩
abbrev main_call6_call0_call0_c_24 : Ref sig .tc := ⟨.hbm, 949, rfl⟩
abbrev main_call6_call0_call0_v96 : Ref sig .tc := ⟨.hbm, 950, rfl⟩
abbrev main_call6_call0_call0_v97 : Ref sig .tc := ⟨.hbm, 951, rfl⟩
abbrev main_call6_call0_call0_c_25 : Ref sig .tc := ⟨.hbm, 952, rfl⟩
abbrev main_call6_call0_call0_v98 : Ref sig .tc := ⟨.hbm, 953, rfl⟩
abbrev main_call6_call0_call0_v99 : Ref sig .tc := ⟨.hbm, 954, rfl⟩
abbrev main_call6_call0_call0_v100 : Ref sig .tc := ⟨.hbm, 955, rfl⟩
abbrev main_call6_call0_call0_v101 : Ref sig .tc := ⟨.hbm, 956, rfl⟩
abbrev main_call6_call0_call0_v102 : Ref sig .tc := ⟨.hbm, 957, rfl⟩
abbrev main_call6_call0_call0_v103 : Ref sig .tc := ⟨.hbm, 958, rfl⟩
abbrev main_call6_call0_call0_v104 : Ref sig .tc := ⟨.hbm, 959, rfl⟩
abbrev main_call6_call0_call0_v105 : Ref sig .tc := ⟨.hbm, 960, rfl⟩
abbrev main_call6_call0_call0_c_26 : Ref sig .tc := ⟨.hbm, 961, rfl⟩
abbrev main_call6_call0_call0_v106 : Ref sig .tc := ⟨.hbm, 962, rfl⟩
abbrev main_call6_call0_call0_v107 : Ref sig .tc := ⟨.hbm, 963, rfl⟩
abbrev main_call6_call0_call0_v108 : Ref sig .tc := ⟨.hbm, 964, rfl⟩
abbrev main_call6_call0_call0_c_27 : Ref sig .tc := ⟨.hbm, 965, rfl⟩
abbrev main_call6_call0_call0_v109 : Ref sig .tc := ⟨.hbm, 966, rfl⟩
abbrev main_call6_call0_call0_v110 : Ref sig .tc := ⟨.hbm, 967, rfl⟩
abbrev main_call6_call0_call0_c_28 : Ref sig .tc := ⟨.hbm, 968, rfl⟩
abbrev main_call6_call0_call0_v111 : Ref sig .tc := ⟨.hbm, 969, rfl⟩
abbrev main_call6_call0_call0_v112 : Ref sig .tc := ⟨.hbm, 970, rfl⟩
abbrev main_call6_call0_call0_v113 : Ref sig .tc := ⟨.hbm, 971, rfl⟩
abbrev main_call6_call0_call0_v114 : Ref sig .tc := ⟨.hbm, 972, rfl⟩
abbrev main_call6_call0_call0_v115 : Ref sig .tc := ⟨.hbm, 973, rfl⟩
abbrev main_call6_call0_call0_c_29 : Ref sig .tc := ⟨.hbm, 974, rfl⟩
abbrev main_call6_call0_call0_v116 : Ref sig .tc := ⟨.hbm, 975, rfl⟩
abbrev main_call6_call0_call0_v117 : Ref sig .tc := ⟨.hbm, 976, rfl⟩
abbrev main_call6_call0_call0_c_30 : Ref sig .tc := ⟨.hbm, 977, rfl⟩
abbrev main_call6_call0_call0_v118 : Ref sig .tc := ⟨.hbm, 978, rfl⟩
abbrev main_call6_call0_call0_v119 : Ref sig .tc := ⟨.hbm, 979, rfl⟩
abbrev main_call6_call0_call0_v120 : Ref sig .tc := ⟨.hbm, 980, rfl⟩
abbrev main_call6_call0_call0_v121 : Ref sig .tc := ⟨.hbm, 981, rfl⟩
abbrev main_call6_call0_call0_v122 : Ref sig .tc := ⟨.hbm, 982, rfl⟩
abbrev main_call6_call0_call0_c_31 : Ref sig .tc := ⟨.hbm, 983, rfl⟩
abbrev main_call6_call0_call0_v123 : Ref sig .tc := ⟨.hbm, 984, rfl⟩
abbrev main_call6_call0_call0_v124 : Ref sig .tc := ⟨.hbm, 985, rfl⟩
abbrev main_call6_call0_call0_c_32 : Ref sig .tc := ⟨.hbm, 986, rfl⟩
abbrev main_call6_call0_call0_v125 : Ref sig .tc := ⟨.hbm, 987, rfl⟩
abbrev main_call6_call0_call0_v126 : Ref sig .tc := ⟨.hbm, 988, rfl⟩
abbrev main_call6_call0_call0_v127 : Ref sig .tc := ⟨.hbm, 989, rfl⟩
abbrev main_call6_call0_call0_v128 : Ref sig .tc := ⟨.hbm, 990, rfl⟩
abbrev main_call6_call0_call0_v129 : Ref sig .tc := ⟨.hbm, 991, rfl⟩
abbrev main_call6_call0_call0_c_33 : Ref sig .tc := ⟨.hbm, 992, rfl⟩
abbrev main_call6_call0_call0_v130 : Ref sig .tc := ⟨.hbm, 993, rfl⟩
abbrev main_call6_call0_call0_v131 : Ref sig .tc := ⟨.hbm, 994, rfl⟩
abbrev main_call6_call0_call0_c_34 : Ref sig .tc := ⟨.hbm, 995, rfl⟩
abbrev main_call6_call0_call0_v132 : Ref sig .tc := ⟨.hbm, 996, rfl⟩
abbrev main_call6_call0_call0_v133 : Ref sig .tc := ⟨.hbm, 997, rfl⟩
abbrev main_call6_call0_call0_v134 : Ref sig .tc := ⟨.hbm, 998, rfl⟩
abbrev main_call6_call0_call0_v135 : Ref sig .tc := ⟨.hbm, 999, rfl⟩
abbrev main_call6_call0_call0_v136 : Ref sig .tc := ⟨.hbm, 1000, rfl⟩
abbrev main_call6_call0_call0_v137 : Ref sig .tc := ⟨.hbm, 1001, rfl⟩
abbrev main_call6_call0_call0_v138 : Ref sig .tc := ⟨.hbm, 1002, rfl⟩
abbrev main_call6_call0_call0_v139 : Ref sig .tc := ⟨.hbm, 1003, rfl⟩
abbrev main_call6_call0_call0_c_35 : Ref sig .tc := ⟨.hbm, 1004, rfl⟩
abbrev main_call6_call0_call0_v140 : Ref sig .tc := ⟨.hbm, 1005, rfl⟩
abbrev main_call6_call0_call0_v141 : Ref sig .tc := ⟨.hbm, 1006, rfl⟩
abbrev main_call6_call0_call0_v142 : Ref sig .tc := ⟨.hbm, 1007, rfl⟩
abbrev main_call6_call0_call0_c_36 : Ref sig .tc := ⟨.hbm, 1008, rfl⟩
abbrev main_call6_call0_call0_v143 : Ref sig .tc := ⟨.hbm, 1009, rfl⟩
abbrev main_call6_call0_call0_v144 : Ref sig .tc := ⟨.hbm, 1010, rfl⟩
abbrev main_call6_call0_call0_c_37 : Ref sig .tc := ⟨.hbm, 1011, rfl⟩
abbrev main_call6_call0_call0_v145 : Ref sig .tc := ⟨.hbm, 1012, rfl⟩
abbrev main_call6_call0_call0_v146 : Ref sig .tc := ⟨.hbm, 1013, rfl⟩
abbrev main_call6_call0_call0_v147 : Ref sig .tc := ⟨.hbm, 1014, rfl⟩
abbrev main_call6_call0_call0_v148 : Ref sig .tc := ⟨.hbm, 1015, rfl⟩
abbrev main_call6_call0_call0_v149 : Ref sig .tc := ⟨.hbm, 1016, rfl⟩
abbrev main_call6_call0_call0_c_38 : Ref sig .tc := ⟨.hbm, 1017, rfl⟩
abbrev main_call6_call0_call0_v150 : Ref sig .tc := ⟨.hbm, 1018, rfl⟩
abbrev main_call6_call0_call0_v151 : Ref sig .tc := ⟨.hbm, 1019, rfl⟩
abbrev main_call6_call0_call0_c_39 : Ref sig .tc := ⟨.hbm, 1020, rfl⟩
abbrev main_call6_call0_call0_v152 : Ref sig .tc := ⟨.hbm, 1021, rfl⟩
abbrev main_call6_call0_call0_v153 : Ref sig .tc := ⟨.hbm, 1022, rfl⟩
abbrev main_call6_call0_call0_v154 : Ref sig .tc := ⟨.hbm, 1023, rfl⟩
abbrev main_call6_call0_call0_v155 : Ref sig .tc := ⟨.hbm, 1024, rfl⟩
abbrev main_call6_call0_call0_v156 : Ref sig .tc := ⟨.hbm, 1025, rfl⟩
abbrev main_call6_call0_call0_c_40 : Ref sig .tc := ⟨.hbm, 1026, rfl⟩
abbrev main_call6_call0_call0_v157 : Ref sig .tc := ⟨.hbm, 1027, rfl⟩
abbrev main_call6_call0_call0_v158 : Ref sig .tc := ⟨.hbm, 1028, rfl⟩
abbrev main_call6_call0_call0_c_41 : Ref sig .tc := ⟨.hbm, 1029, rfl⟩
abbrev main_call6_call0_call0_v159 : Ref sig .tc := ⟨.hbm, 1030, rfl⟩
abbrev main_call6_call0_call0_v160 : Ref sig .tc := ⟨.hbm, 1031, rfl⟩
abbrev main_call6_call0_call0_v161 : Ref sig .tc := ⟨.hbm, 1032, rfl⟩
abbrev main_call6_call0_call0_v162 : Ref sig .tc := ⟨.hbm, 1033, rfl⟩
abbrev main_call6_call0_call0_v163 : Ref sig .tc := ⟨.hbm, 1034, rfl⟩
abbrev main_call6_call0_call0_c_42 : Ref sig .tc := ⟨.hbm, 1035, rfl⟩
abbrev main_call6_call0_call0_v164 : Ref sig .tc := ⟨.hbm, 1036, rfl⟩
abbrev main_call6_call0_call0_v165 : Ref sig .tc := ⟨.hbm, 1037, rfl⟩
abbrev main_call6_call0_call0_c_43 : Ref sig .tc := ⟨.hbm, 1038, rfl⟩
abbrev main_call6_call0_call0_v166 : Ref sig .tc := ⟨.hbm, 1039, rfl⟩
abbrev main_call6_call0_call0_v167 : Ref sig .tc := ⟨.hbm, 1040, rfl⟩
abbrev main_call6_call0_call0_v168 : Ref sig .tc := ⟨.hbm, 1041, rfl⟩
abbrev main_call6_call0_call0_v169 : Ref sig .tc := ⟨.hbm, 1042, rfl⟩
abbrev main_call6_call0_call0_v170 : Ref sig .tc := ⟨.hbm, 1043, rfl⟩
abbrev main_call6_call0_v19_0 : Ref sig .tc := ⟨.hbm, 1044, rfl⟩
abbrev main_call6_call0_call0_v172 : Ref sig .tc := ⟨.hbm, 1045, rfl⟩
abbrev main_call6_call0_call0_v173 : Ref sig .tc := ⟨.hbm, 1046, rfl⟩
abbrev main_call6_call0_call0_c_44 : Ref sig .tc := ⟨.hbm, 1047, rfl⟩
abbrev main_call6_call0_call0_v174 : Ref sig .tc := ⟨.hbm, 1048, rfl⟩
abbrev main_call6_call0_v19_1 : Ref sig .tc := ⟨.hbm, 1049, rfl⟩
abbrev main_call6_call0_v20 : Ref sig .tc := ⟨.hbm, 1050, rfl⟩
abbrev main_call6_call0_c_2 : Ref sig .tc := ⟨.hbm, 1051, rfl⟩
abbrev main_call6_call0_v21 : Ref sig .tc := ⟨.hbm, 1052, rfl⟩
abbrev main_call6_call0_v22 : Ref sig .tc := ⟨.hbm, 1053, rfl⟩
abbrev main_call6_call0_c_3 : Ref sig .tc := ⟨.hbm, 1054, rfl⟩
abbrev main_call6_call0_v23 : Ref sig .tc := ⟨.hbm, 1055, rfl⟩
abbrev main_call6_call0_v24 : Ref sig .tc := ⟨.hbm, 1056, rfl⟩
abbrev main_call6_call0_v25 : Ref sig .tc := ⟨.hbm, 1057, rfl⟩
abbrev main_call6_call0_cst : Ref sig .tc := ⟨.hbm, 1058, rfl⟩
abbrev main_call6_call0_v26 : Ref sig .tc := ⟨.hbm, 1059, rfl⟩
abbrev main_call6_call0_v27 : Ref sig .tc := ⟨.hbm, 1060, rfl⟩
abbrev main_call6_call0_v28 : Ref sig .tc := ⟨.hbm, 1061, rfl⟩
abbrev main_call6_call0_v29 : Ref sig .tc := ⟨.hbm, 1062, rfl⟩
abbrev main_call6_call0_v30 : Ref sig .tc := ⟨.hbm, 1063, rfl⟩
abbrev main_call6_call0_v31 : Ref sig .tc := ⟨.hbm, 1064, rfl⟩
abbrev main_call6_call0_v32 : Ref sig .tc := ⟨.hbm, 1065, rfl⟩
abbrev main_call6_call0_v33 : Ref sig .tc := ⟨.hbm, 1066, rfl⟩
abbrev main_call6_v0 : Ref sig .tc := ⟨.hbm, 1067, rfl⟩
abbrev main_call6_v1 : Ref sig .tc := ⟨.hbm, 1068, rfl⟩
abbrev main_v23 : Ref sig .tc := ⟨.hbm, 1069, rfl⟩
abbrev main_v24 : Ref sig .tc := ⟨.hbm, 1070, rfl⟩
abbrev main_v25 : Ref sig .tc := ⟨.hbm, 1071, rfl⟩
abbrev main_v26 : Ref sig .tc := ⟨.hbm, 1072, rfl⟩
abbrev main_c_7 : Ref sig .tc := ⟨.hbm, 1073, rfl⟩
abbrev main_c_8 : Ref sig .tc := ⟨.hbm, 1074, rfl⟩
abbrev main_call7_c : Ref sig .tc := ⟨.hbm, 1075, rfl⟩
abbrev main_call7_c_0 : Ref sig .tc := ⟨.hbm, 1076, rfl⟩
abbrev main_call7_c_1 : Ref sig .tc := ⟨.hbm, 1077, rfl⟩
abbrev main_call7_call0_v0 : Ref sig .tc := ⟨.hbm, 1078, rfl⟩
abbrev main_call7_v0 : Ref sig .tc := ⟨.hbm, 1079, rfl⟩
abbrev main_call7_v1 : Ref sig .tc := ⟨.hbm, 1080, rfl⟩
abbrev main_call7_c_2 : Ref sig .tc := ⟨.hbm, 1081, rfl⟩
abbrev main_call7_c_3 : Ref sig .tc := ⟨.hbm, 1082, rfl⟩
abbrev main_call7_call1_v0 : Ref sig .tc := ⟨.hbm, 1083, rfl⟩
abbrev main_call7_v2 : Ref sig .tc := ⟨.hbm, 1084, rfl⟩
abbrev main_call7_v3 : Ref sig .tc := ⟨.hbm, 1085, rfl⟩
abbrev main_call7_c_4 : Ref sig .tc := ⟨.hbm, 1086, rfl⟩
abbrev main_call7_c_5 : Ref sig .tc := ⟨.hbm, 1087, rfl⟩
abbrev main_call7_call2_v0 : Ref sig .tc := ⟨.hbm, 1088, rfl⟩
abbrev main_call7_v4 : Ref sig .tc := ⟨.hbm, 1089, rfl⟩
abbrev main_call7_v5 : Ref sig .tc := ⟨.hbm, 1090, rfl⟩
abbrev main_call7_v6 : Ref sig .tc := ⟨.hbm, 1091, rfl⟩
abbrev main_call7_v7 : Ref sig .tc := ⟨.hbm, 1092, rfl⟩
abbrev main_call7_call3_v0 : Ref sig .tc := ⟨.hbm, 1093, rfl⟩
abbrev main_call7_call3_v1 : Ref sig .tc := ⟨.hbm, 1094, rfl⟩
abbrev main_call7_call3_v2 : Ref sig .tc := ⟨.hbm, 1095, rfl⟩
abbrev main_call7_call3_v3 : Ref sig .tc := ⟨.hbm, 1096, rfl⟩
abbrev main_call7_call3_v4 : Ref sig .tc := ⟨.hbm, 1097, rfl⟩
abbrev main_call7_call3_c : Ref sig .tc := ⟨.hbm, 1098, rfl⟩
abbrev main_call7_call3_v5 : Ref sig .tc := ⟨.hbm, 1099, rfl⟩
abbrev main_call7_call3_v6 : Ref sig .tc := ⟨.hbm, 1100, rfl⟩
abbrev main_call7_call3_c_0 : Ref sig .tc := ⟨.hbm, 1101, rfl⟩
abbrev main_call7_call3_v7 : Ref sig .tc := ⟨.hbm, 1102, rfl⟩
abbrev main_call7_call3_v8 : Ref sig .tc := ⟨.hbm, 1103, rfl⟩
abbrev main_call7_call3_v9 : Ref sig .tc := ⟨.hbm, 1104, rfl⟩
abbrev main_call7_call3_v10 : Ref sig .tc := ⟨.hbm, 1105, rfl⟩
abbrev main_call7_call3_call0_v0 : Ref sig .tc := ⟨.hbm, 1106, rfl⟩
abbrev main_call7_call3_call0_c : Ref sig .tc := ⟨.hbm, 1107, rfl⟩
abbrev main_call7_call3_call0_v1 : Ref sig .tc := ⟨.hbm, 1108, rfl⟩
abbrev main_call7_call3_call0_v2 : Ref sig .tc := ⟨.hbm, 1109, rfl⟩
abbrev main_call7_call3_call0_v3 : Ref sig .tc := ⟨.hbm, 1110, rfl⟩
abbrev main_call7_call3_call0_v4 : Ref sig .tc := ⟨.hbm, 1111, rfl⟩
abbrev main_call7_call3_call0_v5 : Ref sig .tc := ⟨.hbm, 1112, rfl⟩
abbrev main_call7_call3_call0_v6 : Ref sig .tc := ⟨.hbm, 1113, rfl⟩
abbrev main_call7_call3_call0_c_0 : Ref sig .tc := ⟨.hbm, 1114, rfl⟩
abbrev main_call7_call3_call0_v7 : Ref sig .tc := ⟨.hbm, 1115, rfl⟩
abbrev main_call7_call3_call0_v8 : Ref sig .tc := ⟨.hbm, 1116, rfl⟩
abbrev main_call7_call3_call0_c_1 : Ref sig .tc := ⟨.hbm, 1117, rfl⟩
abbrev main_call7_call3_call0_v9 : Ref sig .tc := ⟨.hbm, 1118, rfl⟩
abbrev main_call7_call3_call0_v10 : Ref sig .tc := ⟨.hbm, 1119, rfl⟩
abbrev main_call7_call3_call0_v11 : Ref sig .tc := ⟨.hbm, 1120, rfl⟩
abbrev main_call7_call3_call0_v12 : Ref sig .tc := ⟨.hbm, 1121, rfl⟩
abbrev main_call7_call3_call0_v13 : Ref sig .tc := ⟨.hbm, 1122, rfl⟩
abbrev main_call7_call3_call0_c_2 : Ref sig .tc := ⟨.hbm, 1123, rfl⟩
abbrev main_call7_call3_call0_v14 : Ref sig .tc := ⟨.hbm, 1124, rfl⟩
abbrev main_call7_call3_call0_v15 : Ref sig .tc := ⟨.hbm, 1125, rfl⟩
abbrev main_call7_call3_call0_c_3 : Ref sig .tc := ⟨.hbm, 1126, rfl⟩
abbrev main_call7_call3_call0_v16 : Ref sig .tc := ⟨.hbm, 1127, rfl⟩
abbrev main_call7_call3_call0_v17 : Ref sig .tc := ⟨.hbm, 1128, rfl⟩
abbrev main_call7_call3_call0_v18 : Ref sig .tc := ⟨.hbm, 1129, rfl⟩
abbrev main_call7_call3_call0_v19 : Ref sig .tc := ⟨.hbm, 1130, rfl⟩
abbrev main_call7_call3_call0_v20 : Ref sig .tc := ⟨.hbm, 1131, rfl⟩
abbrev main_call7_call3_call0_c_4 : Ref sig .tc := ⟨.hbm, 1132, rfl⟩
abbrev main_call7_call3_call0_v21 : Ref sig .tc := ⟨.hbm, 1133, rfl⟩
abbrev main_call7_call3_call0_v22 : Ref sig .tc := ⟨.hbm, 1134, rfl⟩
abbrev main_call7_call3_call0_c_5 : Ref sig .tc := ⟨.hbm, 1135, rfl⟩
abbrev main_call7_call3_call0_v23 : Ref sig .tc := ⟨.hbm, 1136, rfl⟩
abbrev main_call7_call3_call0_v24 : Ref sig .tc := ⟨.hbm, 1137, rfl⟩
abbrev main_call7_call3_call0_v25 : Ref sig .tc := ⟨.hbm, 1138, rfl⟩
abbrev main_call7_call3_call0_v26 : Ref sig .tc := ⟨.hbm, 1139, rfl⟩
abbrev main_call7_call3_call0_v27 : Ref sig .tc := ⟨.hbm, 1140, rfl⟩
abbrev main_call7_call3_call0_c_6 : Ref sig .tc := ⟨.hbm, 1141, rfl⟩
abbrev main_call7_call3_call0_v28 : Ref sig .tc := ⟨.hbm, 1142, rfl⟩
abbrev main_call7_call3_call0_v29 : Ref sig .tc := ⟨.hbm, 1143, rfl⟩
abbrev main_call7_call3_call0_c_7 : Ref sig .tc := ⟨.hbm, 1144, rfl⟩
abbrev main_call7_call3_call0_v30 : Ref sig .tc := ⟨.hbm, 1145, rfl⟩
abbrev main_call7_call3_call0_v31 : Ref sig .tc := ⟨.hbm, 1146, rfl⟩
abbrev main_call7_call3_call0_v32 : Ref sig .tc := ⟨.hbm, 1147, rfl⟩
abbrev main_call7_call3_call0_v33 : Ref sig .tc := ⟨.hbm, 1148, rfl⟩
abbrev main_call7_call3_call0_v34 : Ref sig .tc := ⟨.hbm, 1149, rfl⟩
abbrev main_call7_call3_call0_v35 : Ref sig .tc := ⟨.hbm, 1150, rfl⟩
abbrev main_call7_call3_call0_v36 : Ref sig .tc := ⟨.hbm, 1151, rfl⟩
abbrev main_call7_call3_call0_v37 : Ref sig .tc := ⟨.hbm, 1152, rfl⟩
abbrev main_call7_call3_call0_c_8 : Ref sig .tc := ⟨.hbm, 1153, rfl⟩
abbrev main_call7_call3_call0_v38 : Ref sig .tc := ⟨.hbm, 1154, rfl⟩
abbrev main_call7_call3_call0_v39 : Ref sig .tc := ⟨.hbm, 1155, rfl⟩
abbrev main_call7_call3_call0_v40 : Ref sig .tc := ⟨.hbm, 1156, rfl⟩
abbrev main_call7_call3_call0_c_9 : Ref sig .tc := ⟨.hbm, 1157, rfl⟩
abbrev main_call7_call3_call0_v41 : Ref sig .tc := ⟨.hbm, 1158, rfl⟩
abbrev main_call7_call3_call0_v42 : Ref sig .tc := ⟨.hbm, 1159, rfl⟩
abbrev main_call7_call3_call0_c_10 : Ref sig .tc := ⟨.hbm, 1160, rfl⟩
abbrev main_call7_call3_call0_v43 : Ref sig .tc := ⟨.hbm, 1161, rfl⟩
abbrev main_call7_call3_call0_v44 : Ref sig .tc := ⟨.hbm, 1162, rfl⟩
abbrev main_call7_call3_call0_v45 : Ref sig .tc := ⟨.hbm, 1163, rfl⟩
abbrev main_call7_call3_call0_v46 : Ref sig .tc := ⟨.hbm, 1164, rfl⟩
abbrev main_call7_call3_call0_v47 : Ref sig .tc := ⟨.hbm, 1165, rfl⟩
abbrev main_call7_call3_call0_c_11 : Ref sig .tc := ⟨.hbm, 1166, rfl⟩
abbrev main_call7_call3_call0_v48 : Ref sig .tc := ⟨.hbm, 1167, rfl⟩
abbrev main_call7_call3_call0_v49 : Ref sig .tc := ⟨.hbm, 1168, rfl⟩
abbrev main_call7_call3_call0_c_12 : Ref sig .tc := ⟨.hbm, 1169, rfl⟩
abbrev main_call7_call3_call0_v50 : Ref sig .tc := ⟨.hbm, 1170, rfl⟩
abbrev main_call7_call3_call0_v51 : Ref sig .tc := ⟨.hbm, 1171, rfl⟩
abbrev main_call7_call3_call0_v52 : Ref sig .tc := ⟨.hbm, 1172, rfl⟩
abbrev main_call7_call3_call0_v53 : Ref sig .tc := ⟨.hbm, 1173, rfl⟩
abbrev main_call7_call3_call0_v54 : Ref sig .tc := ⟨.hbm, 1174, rfl⟩
abbrev main_call7_call3_call0_c_13 : Ref sig .tc := ⟨.hbm, 1175, rfl⟩
abbrev main_call7_call3_call0_v55 : Ref sig .tc := ⟨.hbm, 1176, rfl⟩
abbrev main_call7_call3_call0_v56 : Ref sig .tc := ⟨.hbm, 1177, rfl⟩
abbrev main_call7_call3_call0_c_14 : Ref sig .tc := ⟨.hbm, 1178, rfl⟩
abbrev main_call7_call3_call0_v57 : Ref sig .tc := ⟨.hbm, 1179, rfl⟩
abbrev main_call7_call3_call0_v58 : Ref sig .tc := ⟨.hbm, 1180, rfl⟩
abbrev main_call7_call3_call0_v59 : Ref sig .tc := ⟨.hbm, 1181, rfl⟩
abbrev main_call7_call3_call0_v60 : Ref sig .tc := ⟨.hbm, 1182, rfl⟩
abbrev main_call7_call3_call0_v61 : Ref sig .tc := ⟨.hbm, 1183, rfl⟩
abbrev main_call7_call3_call0_c_15 : Ref sig .tc := ⟨.hbm, 1184, rfl⟩
abbrev main_call7_call3_call0_v62 : Ref sig .tc := ⟨.hbm, 1185, rfl⟩
abbrev main_call7_call3_call0_v63 : Ref sig .tc := ⟨.hbm, 1186, rfl⟩
abbrev main_call7_call3_call0_c_16 : Ref sig .tc := ⟨.hbm, 1187, rfl⟩
abbrev main_call7_call3_call0_v64 : Ref sig .tc := ⟨.hbm, 1188, rfl⟩
abbrev main_call7_call3_call0_v65 : Ref sig .tc := ⟨.hbm, 1189, rfl⟩
abbrev main_call7_call3_call0_v66 : Ref sig .tc := ⟨.hbm, 1190, rfl⟩
abbrev main_call7_call3_call0_v67 : Ref sig .tc := ⟨.hbm, 1191, rfl⟩
abbrev main_call7_call3_call0_v68 : Ref sig .tc := ⟨.hbm, 1192, rfl⟩
abbrev main_call7_call3_call0_v69 : Ref sig .tc := ⟨.hbm, 1193, rfl⟩
abbrev main_call7_call3_call0_v70 : Ref sig .tc := ⟨.hbm, 1194, rfl⟩
abbrev main_call7_call3_call0_v71 : Ref sig .tc := ⟨.hbm, 1195, rfl⟩
abbrev main_call7_call3_call0_c_17 : Ref sig .tc := ⟨.hbm, 1196, rfl⟩
abbrev main_call7_call3_call0_v72 : Ref sig .tc := ⟨.hbm, 1197, rfl⟩
abbrev main_call7_call3_call0_v73 : Ref sig .tc := ⟨.hbm, 1198, rfl⟩
abbrev main_call7_call3_call0_v74 : Ref sig .tc := ⟨.hbm, 1199, rfl⟩
abbrev main_call7_call3_call0_c_18 : Ref sig .tc := ⟨.hbm, 1200, rfl⟩
abbrev main_call7_call3_call0_v75 : Ref sig .tc := ⟨.hbm, 1201, rfl⟩
abbrev main_call7_call3_call0_v76 : Ref sig .tc := ⟨.hbm, 1202, rfl⟩
abbrev main_call7_call3_call0_c_19 : Ref sig .tc := ⟨.hbm, 1203, rfl⟩
abbrev main_call7_call3_call0_v77 : Ref sig .tc := ⟨.hbm, 1204, rfl⟩
abbrev main_call7_call3_call0_v78 : Ref sig .tc := ⟨.hbm, 1205, rfl⟩
abbrev main_call7_call3_call0_v79 : Ref sig .tc := ⟨.hbm, 1206, rfl⟩
abbrev main_call7_call3_call0_v80 : Ref sig .tc := ⟨.hbm, 1207, rfl⟩
abbrev main_call7_call3_call0_v81 : Ref sig .tc := ⟨.hbm, 1208, rfl⟩
abbrev main_call7_call3_call0_c_20 : Ref sig .tc := ⟨.hbm, 1209, rfl⟩
abbrev main_call7_call3_call0_v82 : Ref sig .tc := ⟨.hbm, 1210, rfl⟩
abbrev main_call7_call3_call0_v83 : Ref sig .tc := ⟨.hbm, 1211, rfl⟩
abbrev main_call7_call3_call0_c_21 : Ref sig .tc := ⟨.hbm, 1212, rfl⟩
abbrev main_call7_call3_call0_v84 : Ref sig .tc := ⟨.hbm, 1213, rfl⟩
abbrev main_call7_call3_call0_v85 : Ref sig .tc := ⟨.hbm, 1214, rfl⟩
abbrev main_call7_call3_call0_v86 : Ref sig .tc := ⟨.hbm, 1215, rfl⟩
abbrev main_call7_call3_call0_v87 : Ref sig .tc := ⟨.hbm, 1216, rfl⟩
abbrev main_call7_call3_call0_v88 : Ref sig .tc := ⟨.hbm, 1217, rfl⟩
abbrev main_call7_call3_call0_c_22 : Ref sig .tc := ⟨.hbm, 1218, rfl⟩
abbrev main_call7_call3_call0_v89 : Ref sig .tc := ⟨.hbm, 1219, rfl⟩
abbrev main_call7_call3_call0_v90 : Ref sig .tc := ⟨.hbm, 1220, rfl⟩
abbrev main_call7_call3_call0_c_23 : Ref sig .tc := ⟨.hbm, 1221, rfl⟩
abbrev main_call7_call3_call0_v91 : Ref sig .tc := ⟨.hbm, 1222, rfl⟩
abbrev main_call7_call3_call0_v92 : Ref sig .tc := ⟨.hbm, 1223, rfl⟩
abbrev main_call7_call3_call0_v93 : Ref sig .tc := ⟨.hbm, 1224, rfl⟩
abbrev main_call7_call3_call0_v94 : Ref sig .tc := ⟨.hbm, 1225, rfl⟩
abbrev main_call7_call3_call0_v95 : Ref sig .tc := ⟨.hbm, 1226, rfl⟩
abbrev main_call7_call3_call0_c_24 : Ref sig .tc := ⟨.hbm, 1227, rfl⟩
abbrev main_call7_call3_call0_v96 : Ref sig .tc := ⟨.hbm, 1228, rfl⟩
abbrev main_call7_call3_call0_v97 : Ref sig .tc := ⟨.hbm, 1229, rfl⟩
abbrev main_call7_call3_call0_c_25 : Ref sig .tc := ⟨.hbm, 1230, rfl⟩
abbrev main_call7_call3_call0_v98 : Ref sig .tc := ⟨.hbm, 1231, rfl⟩
abbrev main_call7_call3_call0_v99 : Ref sig .tc := ⟨.hbm, 1232, rfl⟩
abbrev main_call7_call3_call0_v100 : Ref sig .tc := ⟨.hbm, 1233, rfl⟩
abbrev main_call7_call3_call0_v101 : Ref sig .tc := ⟨.hbm, 1234, rfl⟩
abbrev main_call7_call3_call0_v102 : Ref sig .tc := ⟨.hbm, 1235, rfl⟩
abbrev main_call7_call3_call0_v103 : Ref sig .tc := ⟨.hbm, 1236, rfl⟩
abbrev main_call7_call3_call0_v104 : Ref sig .tc := ⟨.hbm, 1237, rfl⟩
abbrev main_call7_call3_call0_v105 : Ref sig .tc := ⟨.hbm, 1238, rfl⟩
abbrev main_call7_call3_call0_c_26 : Ref sig .tc := ⟨.hbm, 1239, rfl⟩
abbrev main_call7_call3_call0_v106 : Ref sig .tc := ⟨.hbm, 1240, rfl⟩
abbrev main_call7_call3_call0_v107 : Ref sig .tc := ⟨.hbm, 1241, rfl⟩
abbrev main_call7_call3_call0_v108 : Ref sig .tc := ⟨.hbm, 1242, rfl⟩
abbrev main_call7_call3_call0_c_27 : Ref sig .tc := ⟨.hbm, 1243, rfl⟩
abbrev main_call7_call3_call0_v109 : Ref sig .tc := ⟨.hbm, 1244, rfl⟩
abbrev main_call7_call3_call0_v110 : Ref sig .tc := ⟨.hbm, 1245, rfl⟩
abbrev main_call7_call3_call0_c_28 : Ref sig .tc := ⟨.hbm, 1246, rfl⟩
abbrev main_call7_call3_call0_v111 : Ref sig .tc := ⟨.hbm, 1247, rfl⟩
abbrev main_call7_call3_call0_v112 : Ref sig .tc := ⟨.hbm, 1248, rfl⟩
abbrev main_call7_call3_call0_v113 : Ref sig .tc := ⟨.hbm, 1249, rfl⟩
abbrev main_call7_call3_call0_v114 : Ref sig .tc := ⟨.hbm, 1250, rfl⟩
abbrev main_call7_call3_call0_v115 : Ref sig .tc := ⟨.hbm, 1251, rfl⟩
abbrev main_call7_call3_call0_c_29 : Ref sig .tc := ⟨.hbm, 1252, rfl⟩
abbrev main_call7_call3_call0_v116 : Ref sig .tc := ⟨.hbm, 1253, rfl⟩
abbrev main_call7_call3_call0_v117 : Ref sig .tc := ⟨.hbm, 1254, rfl⟩
abbrev main_call7_call3_call0_c_30 : Ref sig .tc := ⟨.hbm, 1255, rfl⟩
abbrev main_call7_call3_call0_v118 : Ref sig .tc := ⟨.hbm, 1256, rfl⟩
abbrev main_call7_call3_call0_v119 : Ref sig .tc := ⟨.hbm, 1257, rfl⟩
abbrev main_call7_call3_call0_v120 : Ref sig .tc := ⟨.hbm, 1258, rfl⟩
abbrev main_call7_call3_call0_v121 : Ref sig .tc := ⟨.hbm, 1259, rfl⟩
abbrev main_call7_call3_call0_v122 : Ref sig .tc := ⟨.hbm, 1260, rfl⟩
abbrev main_call7_call3_call0_c_31 : Ref sig .tc := ⟨.hbm, 1261, rfl⟩
abbrev main_call7_call3_call0_v123 : Ref sig .tc := ⟨.hbm, 1262, rfl⟩
abbrev main_call7_call3_call0_v124 : Ref sig .tc := ⟨.hbm, 1263, rfl⟩
abbrev main_call7_call3_call0_c_32 : Ref sig .tc := ⟨.hbm, 1264, rfl⟩
abbrev main_call7_call3_call0_v125 : Ref sig .tc := ⟨.hbm, 1265, rfl⟩
abbrev main_call7_call3_call0_v126 : Ref sig .tc := ⟨.hbm, 1266, rfl⟩
abbrev main_call7_call3_call0_v127 : Ref sig .tc := ⟨.hbm, 1267, rfl⟩
abbrev main_call7_call3_call0_v128 : Ref sig .tc := ⟨.hbm, 1268, rfl⟩
abbrev main_call7_call3_call0_v129 : Ref sig .tc := ⟨.hbm, 1269, rfl⟩
abbrev main_call7_call3_call0_c_33 : Ref sig .tc := ⟨.hbm, 1270, rfl⟩
abbrev main_call7_call3_call0_v130 : Ref sig .tc := ⟨.hbm, 1271, rfl⟩
abbrev main_call7_call3_call0_v131 : Ref sig .tc := ⟨.hbm, 1272, rfl⟩
abbrev main_call7_call3_call0_c_34 : Ref sig .tc := ⟨.hbm, 1273, rfl⟩
abbrev main_call7_call3_call0_v132 : Ref sig .tc := ⟨.hbm, 1274, rfl⟩
abbrev main_call7_call3_call0_v133 : Ref sig .tc := ⟨.hbm, 1275, rfl⟩
abbrev main_call7_call3_call0_v134 : Ref sig .tc := ⟨.hbm, 1276, rfl⟩
abbrev main_call7_call3_call0_v135 : Ref sig .tc := ⟨.hbm, 1277, rfl⟩
abbrev main_call7_call3_call0_v136 : Ref sig .tc := ⟨.hbm, 1278, rfl⟩
abbrev main_call7_call3_call0_v137 : Ref sig .tc := ⟨.hbm, 1279, rfl⟩
abbrev main_call7_call3_call0_v138 : Ref sig .tc := ⟨.hbm, 1280, rfl⟩
abbrev main_call7_call3_call0_v139 : Ref sig .tc := ⟨.hbm, 1281, rfl⟩
abbrev main_call7_call3_call0_c_35 : Ref sig .tc := ⟨.hbm, 1282, rfl⟩
abbrev main_call7_call3_call0_v140 : Ref sig .tc := ⟨.hbm, 1283, rfl⟩
abbrev main_call7_call3_call0_v141 : Ref sig .tc := ⟨.hbm, 1284, rfl⟩
abbrev main_call7_call3_call0_v142 : Ref sig .tc := ⟨.hbm, 1285, rfl⟩
abbrev main_call7_call3_call0_c_36 : Ref sig .tc := ⟨.hbm, 1286, rfl⟩
abbrev main_call7_call3_call0_v143 : Ref sig .tc := ⟨.hbm, 1287, rfl⟩
abbrev main_call7_call3_call0_v144 : Ref sig .tc := ⟨.hbm, 1288, rfl⟩
abbrev main_call7_call3_call0_c_37 : Ref sig .tc := ⟨.hbm, 1289, rfl⟩
abbrev main_call7_call3_call0_v145 : Ref sig .tc := ⟨.hbm, 1290, rfl⟩
abbrev main_call7_call3_call0_v146 : Ref sig .tc := ⟨.hbm, 1291, rfl⟩
abbrev main_call7_call3_call0_v147 : Ref sig .tc := ⟨.hbm, 1292, rfl⟩
abbrev main_call7_call3_call0_v148 : Ref sig .tc := ⟨.hbm, 1293, rfl⟩
abbrev main_call7_call3_call0_v149 : Ref sig .tc := ⟨.hbm, 1294, rfl⟩
abbrev main_call7_call3_call0_c_38 : Ref sig .tc := ⟨.hbm, 1295, rfl⟩
abbrev main_call7_call3_call0_v150 : Ref sig .tc := ⟨.hbm, 1296, rfl⟩
abbrev main_call7_call3_call0_v151 : Ref sig .tc := ⟨.hbm, 1297, rfl⟩
abbrev main_call7_call3_call0_c_39 : Ref sig .tc := ⟨.hbm, 1298, rfl⟩
abbrev main_call7_call3_call0_v152 : Ref sig .tc := ⟨.hbm, 1299, rfl⟩
abbrev main_call7_call3_call0_v153 : Ref sig .tc := ⟨.hbm, 1300, rfl⟩
abbrev main_call7_call3_call0_v154 : Ref sig .tc := ⟨.hbm, 1301, rfl⟩
abbrev main_call7_call3_call0_v155 : Ref sig .tc := ⟨.hbm, 1302, rfl⟩
abbrev main_call7_call3_call0_v156 : Ref sig .tc := ⟨.hbm, 1303, rfl⟩
abbrev main_call7_call3_call0_c_40 : Ref sig .tc := ⟨.hbm, 1304, rfl⟩
abbrev main_call7_call3_call0_v157 : Ref sig .tc := ⟨.hbm, 1305, rfl⟩
abbrev main_call7_call3_call0_v158 : Ref sig .tc := ⟨.hbm, 1306, rfl⟩
abbrev main_call7_call3_call0_c_41 : Ref sig .tc := ⟨.hbm, 1307, rfl⟩
abbrev main_call7_call3_call0_v159 : Ref sig .tc := ⟨.hbm, 1308, rfl⟩
abbrev main_call7_call3_call0_v160 : Ref sig .tc := ⟨.hbm, 1309, rfl⟩
abbrev main_call7_call3_call0_v161 : Ref sig .tc := ⟨.hbm, 1310, rfl⟩
abbrev main_call7_call3_call0_v162 : Ref sig .tc := ⟨.hbm, 1311, rfl⟩
abbrev main_call7_call3_call0_v163 : Ref sig .tc := ⟨.hbm, 1312, rfl⟩
abbrev main_call7_call3_call0_c_42 : Ref sig .tc := ⟨.hbm, 1313, rfl⟩
abbrev main_call7_call3_call0_v164 : Ref sig .tc := ⟨.hbm, 1314, rfl⟩
abbrev main_call7_call3_call0_v165 : Ref sig .tc := ⟨.hbm, 1315, rfl⟩
abbrev main_call7_call3_call0_c_43 : Ref sig .tc := ⟨.hbm, 1316, rfl⟩
abbrev main_call7_call3_call0_v166 : Ref sig .tc := ⟨.hbm, 1317, rfl⟩
abbrev main_call7_call3_call0_v167 : Ref sig .tc := ⟨.hbm, 1318, rfl⟩
abbrev main_call7_call3_call0_v168 : Ref sig .tc := ⟨.hbm, 1319, rfl⟩
abbrev main_call7_call3_call0_v169 : Ref sig .tc := ⟨.hbm, 1320, rfl⟩
abbrev main_call7_call3_call0_v170 : Ref sig .tc := ⟨.hbm, 1321, rfl⟩
abbrev main_call7_call3_v11_0 : Ref sig .tc := ⟨.hbm, 1322, rfl⟩
abbrev main_call7_call3_call0_v172 : Ref sig .tc := ⟨.hbm, 1323, rfl⟩
abbrev main_call7_call3_call0_v173 : Ref sig .tc := ⟨.hbm, 1324, rfl⟩
abbrev main_call7_call3_call0_c_44 : Ref sig .tc := ⟨.hbm, 1325, rfl⟩
abbrev main_call7_call3_call0_v174 : Ref sig .tc := ⟨.hbm, 1326, rfl⟩
abbrev main_call7_call3_v11_1 : Ref sig .tc := ⟨.hbm, 1327, rfl⟩
abbrev main_call7_call3_v12 : Ref sig .tc := ⟨.hbm, 1328, rfl⟩
abbrev main_call7_call3_v13 : Ref sig .tc := ⟨.hbm, 1329, rfl⟩
abbrev main_call7_v8 : Ref sig .tc := ⟨.hbm, 1330, rfl⟩
abbrev main_call7_v9 : Ref sig .tc := ⟨.hbm, 1331, rfl⟩
abbrev main_call7_v10 : Ref sig .tc := ⟨.hbm, 1332, rfl⟩
abbrev main_call7_v11 : Ref sig .tc := ⟨.hbm, 1333, rfl⟩
abbrev main_call7_v12 : Ref sig .tc := ⟨.hbm, 1334, rfl⟩
abbrev main_call7_v13 : Ref sig .tc := ⟨.hbm, 1335, rfl⟩
abbrev main_call7_v14 : Ref sig .tc := ⟨.hbm, 1336, rfl⟩
abbrev main_call7_v15 : Ref sig .tc := ⟨.hbm, 1337, rfl⟩
abbrev main_call7_v16 : Ref sig .tc := ⟨.hbm, 1338, rfl⟩
abbrev main_call7_v17 : Ref sig .tc := ⟨.hbm, 1339, rfl⟩
abbrev main_call7_v18 : Ref sig .tc := ⟨.hbm, 1340, rfl⟩
abbrev main_call7_c_6 : Ref sig .tc := ⟨.hbm, 1341, rfl⟩
abbrev main_call7_v19 : Ref sig .tc := ⟨.hbm, 1342, rfl⟩
abbrev main_call7_v20 : Ref sig .tc := ⟨.hbm, 1343, rfl⟩
abbrev main_call7_c_7 : Ref sig .tc := ⟨.hbm, 1344, rfl⟩
abbrev main_call7_v21 : Ref sig .tc := ⟨.hbm, 1345, rfl⟩
abbrev main_call7_v22 : Ref sig .tc := ⟨.hbm, 1346, rfl⟩
abbrev main_call7_v23 : Ref sig .tc := ⟨.hbm, 1347, rfl⟩
abbrev main_call7_c_8 : Ref sig .tc := ⟨.hbm, 1348, rfl⟩
abbrev main_call7_v24 : Ref sig .tc := ⟨.hbm, 1349, rfl⟩
abbrev main_call7_v25 : Ref sig .tc := ⟨.hbm, 1350, rfl⟩
abbrev main_call7_v26 : Ref sig .tc := ⟨.hbm, 1351, rfl⟩
abbrev main_call7_v27 : Ref sig .tc := ⟨.hbm, 1352, rfl⟩
abbrev main_call7_call4_v0 : Ref sig .tc := ⟨.hbm, 1353, rfl⟩
abbrev main_call7_call4_c : Ref sig .tc := ⟨.hbm, 1354, rfl⟩
abbrev main_call7_call4_v1 : Ref sig .tc := ⟨.hbm, 1355, rfl⟩
abbrev main_call7_call4_v2 : Ref sig .tc := ⟨.hbm, 1356, rfl⟩
abbrev main_call7_call4_v3 : Ref sig .tc := ⟨.hbm, 1357, rfl⟩
abbrev main_call7_call4_v4 : Ref sig .tc := ⟨.hbm, 1358, rfl⟩
abbrev main_call7_call4_v5 : Ref sig .tc := ⟨.hbm, 1359, rfl⟩
abbrev main_call7_call4_v6 : Ref sig .tc := ⟨.hbm, 1360, rfl⟩
abbrev main_call7_call4_c_0 : Ref sig .tc := ⟨.hbm, 1361, rfl⟩
abbrev main_call7_call4_v7 : Ref sig .tc := ⟨.hbm, 1362, rfl⟩
abbrev main_call7_call4_v8 : Ref sig .tc := ⟨.hbm, 1363, rfl⟩
abbrev main_call7_call4_c_1 : Ref sig .tc := ⟨.hbm, 1364, rfl⟩
abbrev main_call7_call4_v9 : Ref sig .tc := ⟨.hbm, 1365, rfl⟩
abbrev main_call7_call4_v10 : Ref sig .tc := ⟨.hbm, 1366, rfl⟩
abbrev main_call7_call4_v11 : Ref sig .tc := ⟨.hbm, 1367, rfl⟩
abbrev main_call7_call4_v12 : Ref sig .tc := ⟨.hbm, 1368, rfl⟩
abbrev main_call7_call4_v13 : Ref sig .tc := ⟨.hbm, 1369, rfl⟩
abbrev main_call7_call4_c_2 : Ref sig .tc := ⟨.hbm, 1370, rfl⟩
abbrev main_call7_call4_v14 : Ref sig .tc := ⟨.hbm, 1371, rfl⟩
abbrev main_call7_call4_v15 : Ref sig .tc := ⟨.hbm, 1372, rfl⟩
abbrev main_call7_call4_c_3 : Ref sig .tc := ⟨.hbm, 1373, rfl⟩
abbrev main_call7_call4_v16 : Ref sig .tc := ⟨.hbm, 1374, rfl⟩
abbrev main_call7_call4_v17 : Ref sig .tc := ⟨.hbm, 1375, rfl⟩
abbrev main_call7_call4_v18 : Ref sig .tc := ⟨.hbm, 1376, rfl⟩
abbrev main_call7_call4_v19 : Ref sig .tc := ⟨.hbm, 1377, rfl⟩
abbrev main_call7_call4_v20 : Ref sig .tc := ⟨.hbm, 1378, rfl⟩
abbrev main_call7_call4_c_4 : Ref sig .tc := ⟨.hbm, 1379, rfl⟩
abbrev main_call7_call4_v21 : Ref sig .tc := ⟨.hbm, 1380, rfl⟩
abbrev main_call7_call4_v22 : Ref sig .tc := ⟨.hbm, 1381, rfl⟩
abbrev main_call7_call4_c_5 : Ref sig .tc := ⟨.hbm, 1382, rfl⟩
abbrev main_call7_call4_v23 : Ref sig .tc := ⟨.hbm, 1383, rfl⟩
abbrev main_call7_call4_v24 : Ref sig .tc := ⟨.hbm, 1384, rfl⟩
abbrev main_call7_call4_v25 : Ref sig .tc := ⟨.hbm, 1385, rfl⟩
abbrev main_call7_call4_v26 : Ref sig .tc := ⟨.hbm, 1386, rfl⟩
abbrev main_call7_call4_v27 : Ref sig .tc := ⟨.hbm, 1387, rfl⟩
abbrev main_call7_call4_c_6 : Ref sig .tc := ⟨.hbm, 1388, rfl⟩
abbrev main_call7_call4_v28 : Ref sig .tc := ⟨.hbm, 1389, rfl⟩
abbrev main_call7_call4_v29 : Ref sig .tc := ⟨.hbm, 1390, rfl⟩
abbrev main_call7_call4_c_7 : Ref sig .tc := ⟨.hbm, 1391, rfl⟩
abbrev main_call7_call4_v30 : Ref sig .tc := ⟨.hbm, 1392, rfl⟩
abbrev main_call7_call4_v31 : Ref sig .tc := ⟨.hbm, 1393, rfl⟩
abbrev main_call7_call4_v32 : Ref sig .tc := ⟨.hbm, 1394, rfl⟩
abbrev main_call7_call4_v33 : Ref sig .tc := ⟨.hbm, 1395, rfl⟩
abbrev main_call7_call4_v34 : Ref sig .tc := ⟨.hbm, 1396, rfl⟩
abbrev main_call7_call4_v35 : Ref sig .tc := ⟨.hbm, 1397, rfl⟩
abbrev main_call7_call4_v36 : Ref sig .tc := ⟨.hbm, 1398, rfl⟩
abbrev main_call7_call4_v37 : Ref sig .tc := ⟨.hbm, 1399, rfl⟩
abbrev main_call7_call4_c_8 : Ref sig .tc := ⟨.hbm, 1400, rfl⟩
abbrev main_call7_call4_v38 : Ref sig .tc := ⟨.hbm, 1401, rfl⟩
abbrev main_call7_call4_v39 : Ref sig .tc := ⟨.hbm, 1402, rfl⟩
abbrev main_call7_call4_v40 : Ref sig .tc := ⟨.hbm, 1403, rfl⟩
abbrev main_call7_call4_c_9 : Ref sig .tc := ⟨.hbm, 1404, rfl⟩
abbrev main_call7_call4_v41 : Ref sig .tc := ⟨.hbm, 1405, rfl⟩
abbrev main_call7_call4_v42 : Ref sig .tc := ⟨.hbm, 1406, rfl⟩
abbrev main_call7_call4_c_10 : Ref sig .tc := ⟨.hbm, 1407, rfl⟩
abbrev main_call7_call4_v43 : Ref sig .tc := ⟨.hbm, 1408, rfl⟩
abbrev main_call7_call4_v44 : Ref sig .tc := ⟨.hbm, 1409, rfl⟩
abbrev main_call7_call4_v45 : Ref sig .tc := ⟨.hbm, 1410, rfl⟩
abbrev main_call7_call4_v46 : Ref sig .tc := ⟨.hbm, 1411, rfl⟩
abbrev main_call7_call4_v47 : Ref sig .tc := ⟨.hbm, 1412, rfl⟩
abbrev main_call7_call4_c_11 : Ref sig .tc := ⟨.hbm, 1413, rfl⟩
abbrev main_call7_call4_v48 : Ref sig .tc := ⟨.hbm, 1414, rfl⟩
abbrev main_call7_call4_v49 : Ref sig .tc := ⟨.hbm, 1415, rfl⟩
abbrev main_call7_call4_c_12 : Ref sig .tc := ⟨.hbm, 1416, rfl⟩
abbrev main_call7_call4_v50 : Ref sig .tc := ⟨.hbm, 1417, rfl⟩
abbrev main_call7_call4_v51 : Ref sig .tc := ⟨.hbm, 1418, rfl⟩
abbrev main_call7_call4_v52 : Ref sig .tc := ⟨.hbm, 1419, rfl⟩
abbrev main_call7_call4_v53 : Ref sig .tc := ⟨.hbm, 1420, rfl⟩
abbrev main_call7_call4_v54 : Ref sig .tc := ⟨.hbm, 1421, rfl⟩
abbrev main_call7_call4_c_13 : Ref sig .tc := ⟨.hbm, 1422, rfl⟩
abbrev main_call7_call4_v55 : Ref sig .tc := ⟨.hbm, 1423, rfl⟩
abbrev main_call7_call4_v56 : Ref sig .tc := ⟨.hbm, 1424, rfl⟩
abbrev main_call7_call4_c_14 : Ref sig .tc := ⟨.hbm, 1425, rfl⟩
abbrev main_call7_call4_v57 : Ref sig .tc := ⟨.hbm, 1426, rfl⟩
abbrev main_call7_call4_v58 : Ref sig .tc := ⟨.hbm, 1427, rfl⟩
abbrev main_call7_call4_v59 : Ref sig .tc := ⟨.hbm, 1428, rfl⟩
abbrev main_call7_call4_v60 : Ref sig .tc := ⟨.hbm, 1429, rfl⟩
abbrev main_call7_call4_v61 : Ref sig .tc := ⟨.hbm, 1430, rfl⟩
abbrev main_call7_call4_c_15 : Ref sig .tc := ⟨.hbm, 1431, rfl⟩
abbrev main_call7_call4_v62 : Ref sig .tc := ⟨.hbm, 1432, rfl⟩
abbrev main_call7_call4_v63 : Ref sig .tc := ⟨.hbm, 1433, rfl⟩
abbrev main_call7_call4_c_16 : Ref sig .tc := ⟨.hbm, 1434, rfl⟩
abbrev main_call7_call4_v64 : Ref sig .tc := ⟨.hbm, 1435, rfl⟩
abbrev main_call7_call4_v65 : Ref sig .tc := ⟨.hbm, 1436, rfl⟩
abbrev main_call7_call4_v66 : Ref sig .tc := ⟨.hbm, 1437, rfl⟩
abbrev main_call7_call4_v67 : Ref sig .tc := ⟨.hbm, 1438, rfl⟩
abbrev main_call7_call4_v68 : Ref sig .tc := ⟨.hbm, 1439, rfl⟩
abbrev main_call7_call4_v69 : Ref sig .tc := ⟨.hbm, 1440, rfl⟩
abbrev main_call7_call4_v70 : Ref sig .tc := ⟨.hbm, 1441, rfl⟩
abbrev main_call7_call4_v71 : Ref sig .tc := ⟨.hbm, 1442, rfl⟩
abbrev main_call7_call4_c_17 : Ref sig .tc := ⟨.hbm, 1443, rfl⟩
abbrev main_call7_call4_v72 : Ref sig .tc := ⟨.hbm, 1444, rfl⟩
abbrev main_call7_call4_v73 : Ref sig .tc := ⟨.hbm, 1445, rfl⟩
abbrev main_call7_call4_v74 : Ref sig .tc := ⟨.hbm, 1446, rfl⟩
abbrev main_call7_call4_c_18 : Ref sig .tc := ⟨.hbm, 1447, rfl⟩
abbrev main_call7_call4_v75 : Ref sig .tc := ⟨.hbm, 1448, rfl⟩
abbrev main_call7_call4_v76 : Ref sig .tc := ⟨.hbm, 1449, rfl⟩
abbrev main_call7_call4_c_19 : Ref sig .tc := ⟨.hbm, 1450, rfl⟩
abbrev main_call7_call4_v77 : Ref sig .tc := ⟨.hbm, 1451, rfl⟩
abbrev main_call7_call4_v78 : Ref sig .tc := ⟨.hbm, 1452, rfl⟩
abbrev main_call7_call4_v79 : Ref sig .tc := ⟨.hbm, 1453, rfl⟩
abbrev main_call7_call4_v80 : Ref sig .tc := ⟨.hbm, 1454, rfl⟩
abbrev main_call7_call4_v81 : Ref sig .tc := ⟨.hbm, 1455, rfl⟩
abbrev main_call7_call4_c_20 : Ref sig .tc := ⟨.hbm, 1456, rfl⟩
abbrev main_call7_call4_v82 : Ref sig .tc := ⟨.hbm, 1457, rfl⟩
abbrev main_call7_call4_v83 : Ref sig .tc := ⟨.hbm, 1458, rfl⟩
abbrev main_call7_call4_c_21 : Ref sig .tc := ⟨.hbm, 1459, rfl⟩
abbrev main_call7_call4_v84 : Ref sig .tc := ⟨.hbm, 1460, rfl⟩
abbrev main_call7_call4_v85 : Ref sig .tc := ⟨.hbm, 1461, rfl⟩
abbrev main_call7_call4_v86 : Ref sig .tc := ⟨.hbm, 1462, rfl⟩
abbrev main_call7_call4_v87 : Ref sig .tc := ⟨.hbm, 1463, rfl⟩
abbrev main_call7_call4_v88 : Ref sig .tc := ⟨.hbm, 1464, rfl⟩
abbrev main_call7_call4_c_22 : Ref sig .tc := ⟨.hbm, 1465, rfl⟩
abbrev main_call7_call4_v89 : Ref sig .tc := ⟨.hbm, 1466, rfl⟩
abbrev main_call7_call4_v90 : Ref sig .tc := ⟨.hbm, 1467, rfl⟩
abbrev main_call7_call4_c_23 : Ref sig .tc := ⟨.hbm, 1468, rfl⟩
abbrev main_call7_call4_v91 : Ref sig .tc := ⟨.hbm, 1469, rfl⟩
abbrev main_call7_call4_v92 : Ref sig .tc := ⟨.hbm, 1470, rfl⟩
abbrev main_call7_call4_v93 : Ref sig .tc := ⟨.hbm, 1471, rfl⟩
abbrev main_call7_call4_v94 : Ref sig .tc := ⟨.hbm, 1472, rfl⟩
abbrev main_call7_call4_v95 : Ref sig .tc := ⟨.hbm, 1473, rfl⟩
abbrev main_call7_call4_c_24 : Ref sig .tc := ⟨.hbm, 1474, rfl⟩
abbrev main_call7_call4_v96 : Ref sig .tc := ⟨.hbm, 1475, rfl⟩
abbrev main_call7_call4_v97 : Ref sig .tc := ⟨.hbm, 1476, rfl⟩
abbrev main_call7_call4_c_25 : Ref sig .tc := ⟨.hbm, 1477, rfl⟩
abbrev main_call7_call4_v98 : Ref sig .tc := ⟨.hbm, 1478, rfl⟩
abbrev main_call7_call4_v99 : Ref sig .tc := ⟨.hbm, 1479, rfl⟩
abbrev main_call7_call4_v100 : Ref sig .tc := ⟨.hbm, 1480, rfl⟩
abbrev main_call7_call4_v101 : Ref sig .tc := ⟨.hbm, 1481, rfl⟩
abbrev main_call7_call4_v102 : Ref sig .tc := ⟨.hbm, 1482, rfl⟩
abbrev main_call7_call4_v103 : Ref sig .tc := ⟨.hbm, 1483, rfl⟩
abbrev main_call7_call4_v104 : Ref sig .tc := ⟨.hbm, 1484, rfl⟩
abbrev main_call7_call4_v105 : Ref sig .tc := ⟨.hbm, 1485, rfl⟩
abbrev main_call7_call4_c_26 : Ref sig .tc := ⟨.hbm, 1486, rfl⟩
abbrev main_call7_call4_v106 : Ref sig .tc := ⟨.hbm, 1487, rfl⟩
abbrev main_call7_call4_v107 : Ref sig .tc := ⟨.hbm, 1488, rfl⟩
abbrev main_call7_call4_v108 : Ref sig .tc := ⟨.hbm, 1489, rfl⟩
abbrev main_call7_call4_c_27 : Ref sig .tc := ⟨.hbm, 1490, rfl⟩
abbrev main_call7_call4_v109 : Ref sig .tc := ⟨.hbm, 1491, rfl⟩
abbrev main_call7_call4_v110 : Ref sig .tc := ⟨.hbm, 1492, rfl⟩
abbrev main_call7_call4_c_28 : Ref sig .tc := ⟨.hbm, 1493, rfl⟩
abbrev main_call7_call4_v111 : Ref sig .tc := ⟨.hbm, 1494, rfl⟩
abbrev main_call7_call4_v112 : Ref sig .tc := ⟨.hbm, 1495, rfl⟩
abbrev main_call7_call4_v113 : Ref sig .tc := ⟨.hbm, 1496, rfl⟩
abbrev main_call7_call4_v114 : Ref sig .tc := ⟨.hbm, 1497, rfl⟩
abbrev main_call7_call4_v115 : Ref sig .tc := ⟨.hbm, 1498, rfl⟩
abbrev main_call7_call4_c_29 : Ref sig .tc := ⟨.hbm, 1499, rfl⟩
abbrev main_call7_call4_v116 : Ref sig .tc := ⟨.hbm, 1500, rfl⟩
abbrev main_call7_call4_v117 : Ref sig .tc := ⟨.hbm, 1501, rfl⟩
abbrev main_call7_call4_c_30 : Ref sig .tc := ⟨.hbm, 1502, rfl⟩
abbrev main_call7_call4_v118 : Ref sig .tc := ⟨.hbm, 1503, rfl⟩
abbrev main_call7_call4_v119 : Ref sig .tc := ⟨.hbm, 1504, rfl⟩
abbrev main_call7_call4_v120 : Ref sig .tc := ⟨.hbm, 1505, rfl⟩
abbrev main_call7_call4_v121 : Ref sig .tc := ⟨.hbm, 1506, rfl⟩
abbrev main_call7_call4_v122 : Ref sig .tc := ⟨.hbm, 1507, rfl⟩
abbrev main_call7_call4_c_31 : Ref sig .tc := ⟨.hbm, 1508, rfl⟩
abbrev main_call7_call4_v123 : Ref sig .tc := ⟨.hbm, 1509, rfl⟩
abbrev main_call7_call4_v124 : Ref sig .tc := ⟨.hbm, 1510, rfl⟩
abbrev main_call7_call4_c_32 : Ref sig .tc := ⟨.hbm, 1511, rfl⟩
abbrev main_call7_call4_v125 : Ref sig .tc := ⟨.hbm, 1512, rfl⟩
abbrev main_call7_call4_v126 : Ref sig .tc := ⟨.hbm, 1513, rfl⟩
abbrev main_call7_call4_v127 : Ref sig .tc := ⟨.hbm, 1514, rfl⟩
abbrev main_call7_call4_v128 : Ref sig .tc := ⟨.hbm, 1515, rfl⟩
abbrev main_call7_call4_v129 : Ref sig .tc := ⟨.hbm, 1516, rfl⟩
abbrev main_call7_call4_c_33 : Ref sig .tc := ⟨.hbm, 1517, rfl⟩
abbrev main_call7_call4_v130 : Ref sig .tc := ⟨.hbm, 1518, rfl⟩
abbrev main_call7_call4_v131 : Ref sig .tc := ⟨.hbm, 1519, rfl⟩
abbrev main_call7_call4_c_34 : Ref sig .tc := ⟨.hbm, 1520, rfl⟩
abbrev main_call7_call4_v132 : Ref sig .tc := ⟨.hbm, 1521, rfl⟩
abbrev main_call7_call4_v133 : Ref sig .tc := ⟨.hbm, 1522, rfl⟩
abbrev main_call7_call4_v134 : Ref sig .tc := ⟨.hbm, 1523, rfl⟩
abbrev main_call7_call4_v135 : Ref sig .tc := ⟨.hbm, 1524, rfl⟩
abbrev main_call7_call4_v136 : Ref sig .tc := ⟨.hbm, 1525, rfl⟩
abbrev main_call7_call4_v137 : Ref sig .tc := ⟨.hbm, 1526, rfl⟩
abbrev main_call7_call4_v138 : Ref sig .tc := ⟨.hbm, 1527, rfl⟩
abbrev main_call7_call4_v139 : Ref sig .tc := ⟨.hbm, 1528, rfl⟩
abbrev main_call7_call4_c_35 : Ref sig .tc := ⟨.hbm, 1529, rfl⟩
abbrev main_call7_call4_v140 : Ref sig .tc := ⟨.hbm, 1530, rfl⟩
abbrev main_call7_call4_v141 : Ref sig .tc := ⟨.hbm, 1531, rfl⟩
abbrev main_call7_call4_v142 : Ref sig .tc := ⟨.hbm, 1532, rfl⟩
abbrev main_call7_call4_c_36 : Ref sig .tc := ⟨.hbm, 1533, rfl⟩
abbrev main_call7_call4_v143 : Ref sig .tc := ⟨.hbm, 1534, rfl⟩
abbrev main_call7_call4_v144 : Ref sig .tc := ⟨.hbm, 1535, rfl⟩
abbrev main_call7_call4_c_37 : Ref sig .tc := ⟨.hbm, 1536, rfl⟩
abbrev main_call7_call4_v145 : Ref sig .tc := ⟨.hbm, 1537, rfl⟩
abbrev main_call7_call4_v146 : Ref sig .tc := ⟨.hbm, 1538, rfl⟩
abbrev main_call7_call4_v147 : Ref sig .tc := ⟨.hbm, 1539, rfl⟩
abbrev main_call7_call4_v148 : Ref sig .tc := ⟨.hbm, 1540, rfl⟩
abbrev main_call7_call4_v149 : Ref sig .tc := ⟨.hbm, 1541, rfl⟩
abbrev main_call7_call4_c_38 : Ref sig .tc := ⟨.hbm, 1542, rfl⟩
abbrev main_call7_call4_v150 : Ref sig .tc := ⟨.hbm, 1543, rfl⟩
abbrev main_call7_call4_v151 : Ref sig .tc := ⟨.hbm, 1544, rfl⟩
abbrev main_call7_call4_c_39 : Ref sig .tc := ⟨.hbm, 1545, rfl⟩
abbrev main_call7_call4_v152 : Ref sig .tc := ⟨.hbm, 1546, rfl⟩
abbrev main_call7_call4_v153 : Ref sig .tc := ⟨.hbm, 1547, rfl⟩
abbrev main_call7_call4_v154 : Ref sig .tc := ⟨.hbm, 1548, rfl⟩
abbrev main_call7_call4_v155 : Ref sig .tc := ⟨.hbm, 1549, rfl⟩
abbrev main_call7_call4_v156 : Ref sig .tc := ⟨.hbm, 1550, rfl⟩
abbrev main_call7_call4_c_40 : Ref sig .tc := ⟨.hbm, 1551, rfl⟩
abbrev main_call7_call4_v157 : Ref sig .tc := ⟨.hbm, 1552, rfl⟩
abbrev main_call7_call4_v158 : Ref sig .tc := ⟨.hbm, 1553, rfl⟩
abbrev main_call7_call4_c_41 : Ref sig .tc := ⟨.hbm, 1554, rfl⟩
abbrev main_call7_call4_v159 : Ref sig .tc := ⟨.hbm, 1555, rfl⟩
abbrev main_call7_call4_v160 : Ref sig .tc := ⟨.hbm, 1556, rfl⟩
abbrev main_call7_call4_v161 : Ref sig .tc := ⟨.hbm, 1557, rfl⟩
abbrev main_call7_call4_v162 : Ref sig .tc := ⟨.hbm, 1558, rfl⟩
abbrev main_call7_call4_v163 : Ref sig .tc := ⟨.hbm, 1559, rfl⟩
abbrev main_call7_call4_c_42 : Ref sig .tc := ⟨.hbm, 1560, rfl⟩
abbrev main_call7_call4_v164 : Ref sig .tc := ⟨.hbm, 1561, rfl⟩
abbrev main_call7_call4_v165 : Ref sig .tc := ⟨.hbm, 1562, rfl⟩
abbrev main_call7_call4_c_43 : Ref sig .tc := ⟨.hbm, 1563, rfl⟩
abbrev main_call7_call4_v166 : Ref sig .tc := ⟨.hbm, 1564, rfl⟩
abbrev main_call7_call4_v167 : Ref sig .tc := ⟨.hbm, 1565, rfl⟩
abbrev main_call7_call4_v168 : Ref sig .tc := ⟨.hbm, 1566, rfl⟩
abbrev main_call7_call4_v169 : Ref sig .tc := ⟨.hbm, 1567, rfl⟩
abbrev main_call7_call4_v170 : Ref sig .tc := ⟨.hbm, 1568, rfl⟩
abbrev main_call7_v28_0 : Ref sig .tc := ⟨.hbm, 1569, rfl⟩
abbrev main_call7_call4_v172 : Ref sig .tc := ⟨.hbm, 1570, rfl⟩
abbrev main_call7_call4_v173 : Ref sig .tc := ⟨.hbm, 1571, rfl⟩
abbrev main_call7_call4_c_44 : Ref sig .tc := ⟨.hbm, 1572, rfl⟩
abbrev main_call7_call4_v174 : Ref sig .tc := ⟨.hbm, 1573, rfl⟩
abbrev main_call7_v28_1 : Ref sig .tc := ⟨.hbm, 1574, rfl⟩
abbrev main_call7_v29 : Ref sig .tc := ⟨.hbm, 1575, rfl⟩
abbrev main_call7_v30 : Ref sig .tc := ⟨.hbm, 1576, rfl⟩
abbrev main_call7_v31 : Ref sig .tc := ⟨.hbm, 1577, rfl⟩
abbrev main_call7_v32 : Ref sig .tc := ⟨.hbm, 1578, rfl⟩
abbrev main_call7_v33 : Ref sig .tc := ⟨.hbm, 1579, rfl⟩
abbrev main_call7_v34 : Ref sig .tc := ⟨.hbm, 1580, rfl⟩
abbrev main_call7_v35 : Ref sig .tc := ⟨.hbm, 1581, rfl⟩
abbrev main_call7_c_9 : Ref sig .tc := ⟨.hbm, 1582, rfl⟩
abbrev main_call7_v36 : Ref sig .tc := ⟨.hbm, 1583, rfl⟩
abbrev main_call7_v37 : Ref sig .tc := ⟨.hbm, 1584, rfl⟩
abbrev main_call7_c_10 : Ref sig .tc := ⟨.hbm, 1585, rfl⟩
abbrev main_call7_v38 : Ref sig .tc := ⟨.hbm, 1586, rfl⟩
abbrev main_call7_v39 : Ref sig .tc := ⟨.hbm, 1587, rfl⟩
abbrev main_call7_v40 : Ref sig .tc := ⟨.hbm, 1588, rfl⟩
abbrev main_call7_c_11 : Ref sig .tc := ⟨.hbm, 1589, rfl⟩
abbrev main_call7_v41 : Ref sig .tc := ⟨.hbm, 1590, rfl⟩
abbrev main_call7_v42 : Ref sig .tc := ⟨.hbm, 1591, rfl⟩
abbrev main_call7_v43 : Ref sig .tc := ⟨.hbm, 1592, rfl⟩
abbrev main_call7_v44 : Ref sig .tc := ⟨.hbm, 1593, rfl⟩
abbrev main_call7_call5_v0 : Ref sig .tc := ⟨.hbm, 1594, rfl⟩
abbrev main_call7_call5_c : Ref sig .tc := ⟨.hbm, 1595, rfl⟩
abbrev main_call7_call5_v1 : Ref sig .tc := ⟨.hbm, 1596, rfl⟩
abbrev main_call7_call5_v2 : Ref sig .tc := ⟨.hbm, 1597, rfl⟩
abbrev main_call7_call5_v3 : Ref sig .tc := ⟨.hbm, 1598, rfl⟩
abbrev main_call7_call5_v4 : Ref sig .tc := ⟨.hbm, 1599, rfl⟩
abbrev main_call7_call5_v5 : Ref sig .tc := ⟨.hbm, 1600, rfl⟩
abbrev main_call7_call5_v6 : Ref sig .tc := ⟨.hbm, 1601, rfl⟩
abbrev main_call7_call5_c_0 : Ref sig .tc := ⟨.hbm, 1602, rfl⟩
abbrev main_call7_call5_v7 : Ref sig .tc := ⟨.hbm, 1603, rfl⟩
abbrev main_call7_call5_v8 : Ref sig .tc := ⟨.hbm, 1604, rfl⟩
abbrev main_call7_call5_c_1 : Ref sig .tc := ⟨.hbm, 1605, rfl⟩
abbrev main_call7_call5_v9 : Ref sig .tc := ⟨.hbm, 1606, rfl⟩
abbrev main_call7_call5_v10 : Ref sig .tc := ⟨.hbm, 1607, rfl⟩
abbrev main_call7_call5_v11 : Ref sig .tc := ⟨.hbm, 1608, rfl⟩
abbrev main_call7_call5_v12 : Ref sig .tc := ⟨.hbm, 1609, rfl⟩
abbrev main_call7_call5_v13 : Ref sig .tc := ⟨.hbm, 1610, rfl⟩
abbrev main_call7_call5_c_2 : Ref sig .tc := ⟨.hbm, 1611, rfl⟩
abbrev main_call7_call5_v14 : Ref sig .tc := ⟨.hbm, 1612, rfl⟩
abbrev main_call7_call5_v15 : Ref sig .tc := ⟨.hbm, 1613, rfl⟩
abbrev main_call7_call5_c_3 : Ref sig .tc := ⟨.hbm, 1614, rfl⟩
abbrev main_call7_call5_v16 : Ref sig .tc := ⟨.hbm, 1615, rfl⟩
abbrev main_call7_call5_v17 : Ref sig .tc := ⟨.hbm, 1616, rfl⟩
abbrev main_call7_call5_v18 : Ref sig .tc := ⟨.hbm, 1617, rfl⟩
abbrev main_call7_call5_v19 : Ref sig .tc := ⟨.hbm, 1618, rfl⟩
abbrev main_call7_call5_v20 : Ref sig .tc := ⟨.hbm, 1619, rfl⟩
abbrev main_call7_call5_c_4 : Ref sig .tc := ⟨.hbm, 1620, rfl⟩
abbrev main_call7_call5_v21 : Ref sig .tc := ⟨.hbm, 1621, rfl⟩
abbrev main_call7_call5_v22 : Ref sig .tc := ⟨.hbm, 1622, rfl⟩
abbrev main_call7_call5_c_5 : Ref sig .tc := ⟨.hbm, 1623, rfl⟩
abbrev main_call7_call5_v23 : Ref sig .tc := ⟨.hbm, 1624, rfl⟩
abbrev main_call7_call5_v24 : Ref sig .tc := ⟨.hbm, 1625, rfl⟩
abbrev main_call7_call5_v25 : Ref sig .tc := ⟨.hbm, 1626, rfl⟩
abbrev main_call7_call5_v26 : Ref sig .tc := ⟨.hbm, 1627, rfl⟩
abbrev main_call7_call5_v27 : Ref sig .tc := ⟨.hbm, 1628, rfl⟩
abbrev main_call7_call5_c_6 : Ref sig .tc := ⟨.hbm, 1629, rfl⟩
abbrev main_call7_call5_v28 : Ref sig .tc := ⟨.hbm, 1630, rfl⟩
abbrev main_call7_call5_v29 : Ref sig .tc := ⟨.hbm, 1631, rfl⟩
abbrev main_call7_call5_c_7 : Ref sig .tc := ⟨.hbm, 1632, rfl⟩
abbrev main_call7_call5_v30 : Ref sig .tc := ⟨.hbm, 1633, rfl⟩
abbrev main_call7_call5_v31 : Ref sig .tc := ⟨.hbm, 1634, rfl⟩
abbrev main_call7_call5_v32 : Ref sig .tc := ⟨.hbm, 1635, rfl⟩
abbrev main_call7_call5_v33 : Ref sig .tc := ⟨.hbm, 1636, rfl⟩
abbrev main_call7_call5_v34 : Ref sig .tc := ⟨.hbm, 1637, rfl⟩
abbrev main_call7_call5_v35 : Ref sig .tc := ⟨.hbm, 1638, rfl⟩
abbrev main_call7_call5_v36 : Ref sig .tc := ⟨.hbm, 1639, rfl⟩
abbrev main_call7_call5_v37 : Ref sig .tc := ⟨.hbm, 1640, rfl⟩
abbrev main_call7_call5_c_8 : Ref sig .tc := ⟨.hbm, 1641, rfl⟩
abbrev main_call7_call5_v38 : Ref sig .tc := ⟨.hbm, 1642, rfl⟩
abbrev main_call7_call5_v39 : Ref sig .tc := ⟨.hbm, 1643, rfl⟩
abbrev main_call7_call5_v40 : Ref sig .tc := ⟨.hbm, 1644, rfl⟩
abbrev main_call7_call5_c_9 : Ref sig .tc := ⟨.hbm, 1645, rfl⟩
abbrev main_call7_call5_v41 : Ref sig .tc := ⟨.hbm, 1646, rfl⟩
abbrev main_call7_call5_v42 : Ref sig .tc := ⟨.hbm, 1647, rfl⟩
abbrev main_call7_call5_c_10 : Ref sig .tc := ⟨.hbm, 1648, rfl⟩
abbrev main_call7_call5_v43 : Ref sig .tc := ⟨.hbm, 1649, rfl⟩
abbrev main_call7_call5_v44 : Ref sig .tc := ⟨.hbm, 1650, rfl⟩
abbrev main_call7_call5_v45 : Ref sig .tc := ⟨.hbm, 1651, rfl⟩
abbrev main_call7_call5_v46 : Ref sig .tc := ⟨.hbm, 1652, rfl⟩
abbrev main_call7_call5_v47 : Ref sig .tc := ⟨.hbm, 1653, rfl⟩
abbrev main_call7_call5_c_11 : Ref sig .tc := ⟨.hbm, 1654, rfl⟩
abbrev main_call7_call5_v48 : Ref sig .tc := ⟨.hbm, 1655, rfl⟩
abbrev main_call7_call5_v49 : Ref sig .tc := ⟨.hbm, 1656, rfl⟩
abbrev main_call7_call5_c_12 : Ref sig .tc := ⟨.hbm, 1657, rfl⟩
abbrev main_call7_call5_v50 : Ref sig .tc := ⟨.hbm, 1658, rfl⟩
abbrev main_call7_call5_v51 : Ref sig .tc := ⟨.hbm, 1659, rfl⟩
abbrev main_call7_call5_v52 : Ref sig .tc := ⟨.hbm, 1660, rfl⟩
abbrev main_call7_call5_v53 : Ref sig .tc := ⟨.hbm, 1661, rfl⟩
abbrev main_call7_call5_v54 : Ref sig .tc := ⟨.hbm, 1662, rfl⟩
abbrev main_call7_call5_c_13 : Ref sig .tc := ⟨.hbm, 1663, rfl⟩
abbrev main_call7_call5_v55 : Ref sig .tc := ⟨.hbm, 1664, rfl⟩
abbrev main_call7_call5_v56 : Ref sig .tc := ⟨.hbm, 1665, rfl⟩
abbrev main_call7_call5_c_14 : Ref sig .tc := ⟨.hbm, 1666, rfl⟩
abbrev main_call7_call5_v57 : Ref sig .tc := ⟨.hbm, 1667, rfl⟩
abbrev main_call7_call5_v58 : Ref sig .tc := ⟨.hbm, 1668, rfl⟩
abbrev main_call7_call5_v59 : Ref sig .tc := ⟨.hbm, 1669, rfl⟩
abbrev main_call7_call5_v60 : Ref sig .tc := ⟨.hbm, 1670, rfl⟩
abbrev main_call7_call5_v61 : Ref sig .tc := ⟨.hbm, 1671, rfl⟩
abbrev main_call7_call5_c_15 : Ref sig .tc := ⟨.hbm, 1672, rfl⟩
abbrev main_call7_call5_v62 : Ref sig .tc := ⟨.hbm, 1673, rfl⟩
abbrev main_call7_call5_v63 : Ref sig .tc := ⟨.hbm, 1674, rfl⟩
abbrev main_call7_call5_c_16 : Ref sig .tc := ⟨.hbm, 1675, rfl⟩
abbrev main_call7_call5_v64 : Ref sig .tc := ⟨.hbm, 1676, rfl⟩
abbrev main_call7_call5_v65 : Ref sig .tc := ⟨.hbm, 1677, rfl⟩
abbrev main_call7_call5_v66 : Ref sig .tc := ⟨.hbm, 1678, rfl⟩
abbrev main_call7_call5_v67 : Ref sig .tc := ⟨.hbm, 1679, rfl⟩
abbrev main_call7_call5_v68 : Ref sig .tc := ⟨.hbm, 1680, rfl⟩
abbrev main_call7_call5_v69 : Ref sig .tc := ⟨.hbm, 1681, rfl⟩
abbrev main_call7_call5_v70 : Ref sig .tc := ⟨.hbm, 1682, rfl⟩
abbrev main_call7_call5_v71 : Ref sig .tc := ⟨.hbm, 1683, rfl⟩
abbrev main_call7_call5_c_17 : Ref sig .tc := ⟨.hbm, 1684, rfl⟩
abbrev main_call7_call5_v72 : Ref sig .tc := ⟨.hbm, 1685, rfl⟩
abbrev main_call7_call5_v73 : Ref sig .tc := ⟨.hbm, 1686, rfl⟩
abbrev main_call7_call5_v74 : Ref sig .tc := ⟨.hbm, 1687, rfl⟩
abbrev main_call7_call5_c_18 : Ref sig .tc := ⟨.hbm, 1688, rfl⟩
abbrev main_call7_call5_v75 : Ref sig .tc := ⟨.hbm, 1689, rfl⟩
abbrev main_call7_call5_v76 : Ref sig .tc := ⟨.hbm, 1690, rfl⟩
abbrev main_call7_call5_c_19 : Ref sig .tc := ⟨.hbm, 1691, rfl⟩
abbrev main_call7_call5_v77 : Ref sig .tc := ⟨.hbm, 1692, rfl⟩
abbrev main_call7_call5_v78 : Ref sig .tc := ⟨.hbm, 1693, rfl⟩
abbrev main_call7_call5_v79 : Ref sig .tc := ⟨.hbm, 1694, rfl⟩
abbrev main_call7_call5_v80 : Ref sig .tc := ⟨.hbm, 1695, rfl⟩
abbrev main_call7_call5_v81 : Ref sig .tc := ⟨.hbm, 1696, rfl⟩
abbrev main_call7_call5_c_20 : Ref sig .tc := ⟨.hbm, 1697, rfl⟩
abbrev main_call7_call5_v82 : Ref sig .tc := ⟨.hbm, 1698, rfl⟩
abbrev main_call7_call5_v83 : Ref sig .tc := ⟨.hbm, 1699, rfl⟩
abbrev main_call7_call5_c_21 : Ref sig .tc := ⟨.hbm, 1700, rfl⟩
abbrev main_call7_call5_v84 : Ref sig .tc := ⟨.hbm, 1701, rfl⟩
abbrev main_call7_call5_v85 : Ref sig .tc := ⟨.hbm, 1702, rfl⟩
abbrev main_call7_call5_v86 : Ref sig .tc := ⟨.hbm, 1703, rfl⟩
abbrev main_call7_call5_v87 : Ref sig .tc := ⟨.hbm, 1704, rfl⟩
abbrev main_call7_call5_v88 : Ref sig .tc := ⟨.hbm, 1705, rfl⟩
abbrev main_call7_call5_c_22 : Ref sig .tc := ⟨.hbm, 1706, rfl⟩
abbrev main_call7_call5_v89 : Ref sig .tc := ⟨.hbm, 1707, rfl⟩
abbrev main_call7_call5_v90 : Ref sig .tc := ⟨.hbm, 1708, rfl⟩
abbrev main_call7_call5_c_23 : Ref sig .tc := ⟨.hbm, 1709, rfl⟩
abbrev main_call7_call5_v91 : Ref sig .tc := ⟨.hbm, 1710, rfl⟩
abbrev main_call7_call5_v92 : Ref sig .tc := ⟨.hbm, 1711, rfl⟩
abbrev main_call7_call5_v93 : Ref sig .tc := ⟨.hbm, 1712, rfl⟩
abbrev main_call7_call5_v94 : Ref sig .tc := ⟨.hbm, 1713, rfl⟩
abbrev main_call7_call5_v95 : Ref sig .tc := ⟨.hbm, 1714, rfl⟩
abbrev main_call7_call5_c_24 : Ref sig .tc := ⟨.hbm, 1715, rfl⟩
abbrev main_call7_call5_v96 : Ref sig .tc := ⟨.hbm, 1716, rfl⟩
abbrev main_call7_call5_v97 : Ref sig .tc := ⟨.hbm, 1717, rfl⟩
abbrev main_call7_call5_c_25 : Ref sig .tc := ⟨.hbm, 1718, rfl⟩
abbrev main_call7_call5_v98 : Ref sig .tc := ⟨.hbm, 1719, rfl⟩
abbrev main_call7_call5_v99 : Ref sig .tc := ⟨.hbm, 1720, rfl⟩
abbrev main_call7_call5_v100 : Ref sig .tc := ⟨.hbm, 1721, rfl⟩
abbrev main_call7_call5_v101 : Ref sig .tc := ⟨.hbm, 1722, rfl⟩
abbrev main_call7_call5_v102 : Ref sig .tc := ⟨.hbm, 1723, rfl⟩
abbrev main_call7_call5_v103 : Ref sig .tc := ⟨.hbm, 1724, rfl⟩
abbrev main_call7_call5_v104 : Ref sig .tc := ⟨.hbm, 1725, rfl⟩
abbrev main_call7_call5_v105 : Ref sig .tc := ⟨.hbm, 1726, rfl⟩
abbrev main_call7_call5_c_26 : Ref sig .tc := ⟨.hbm, 1727, rfl⟩
abbrev main_call7_call5_v106 : Ref sig .tc := ⟨.hbm, 1728, rfl⟩
abbrev main_call7_call5_v107 : Ref sig .tc := ⟨.hbm, 1729, rfl⟩
abbrev main_call7_call5_v108 : Ref sig .tc := ⟨.hbm, 1730, rfl⟩
abbrev main_call7_call5_c_27 : Ref sig .tc := ⟨.hbm, 1731, rfl⟩
abbrev main_call7_call5_v109 : Ref sig .tc := ⟨.hbm, 1732, rfl⟩
abbrev main_call7_call5_v110 : Ref sig .tc := ⟨.hbm, 1733, rfl⟩
abbrev main_call7_call5_c_28 : Ref sig .tc := ⟨.hbm, 1734, rfl⟩
abbrev main_call7_call5_v111 : Ref sig .tc := ⟨.hbm, 1735, rfl⟩
abbrev main_call7_call5_v112 : Ref sig .tc := ⟨.hbm, 1736, rfl⟩
abbrev main_call7_call5_v113 : Ref sig .tc := ⟨.hbm, 1737, rfl⟩
abbrev main_call7_call5_v114 : Ref sig .tc := ⟨.hbm, 1738, rfl⟩
abbrev main_call7_call5_v115 : Ref sig .tc := ⟨.hbm, 1739, rfl⟩
abbrev main_call7_call5_c_29 : Ref sig .tc := ⟨.hbm, 1740, rfl⟩
abbrev main_call7_call5_v116 : Ref sig .tc := ⟨.hbm, 1741, rfl⟩
abbrev main_call7_call5_v117 : Ref sig .tc := ⟨.hbm, 1742, rfl⟩
abbrev main_call7_call5_c_30 : Ref sig .tc := ⟨.hbm, 1743, rfl⟩
abbrev main_call7_call5_v118 : Ref sig .tc := ⟨.hbm, 1744, rfl⟩
abbrev main_call7_call5_v119 : Ref sig .tc := ⟨.hbm, 1745, rfl⟩
abbrev main_call7_call5_v120 : Ref sig .tc := ⟨.hbm, 1746, rfl⟩
abbrev main_call7_call5_v121 : Ref sig .tc := ⟨.hbm, 1747, rfl⟩
abbrev main_call7_call5_v122 : Ref sig .tc := ⟨.hbm, 1748, rfl⟩
abbrev main_call7_call5_c_31 : Ref sig .tc := ⟨.hbm, 1749, rfl⟩
abbrev main_call7_call5_v123 : Ref sig .tc := ⟨.hbm, 1750, rfl⟩
abbrev main_call7_call5_v124 : Ref sig .tc := ⟨.hbm, 1751, rfl⟩
abbrev main_call7_call5_c_32 : Ref sig .tc := ⟨.hbm, 1752, rfl⟩
abbrev main_call7_call5_v125 : Ref sig .tc := ⟨.hbm, 1753, rfl⟩
abbrev main_call7_call5_v126 : Ref sig .tc := ⟨.hbm, 1754, rfl⟩
abbrev main_call7_call5_v127 : Ref sig .tc := ⟨.hbm, 1755, rfl⟩
abbrev main_call7_call5_v128 : Ref sig .tc := ⟨.hbm, 1756, rfl⟩
abbrev main_call7_call5_v129 : Ref sig .tc := ⟨.hbm, 1757, rfl⟩
abbrev main_call7_call5_c_33 : Ref sig .tc := ⟨.hbm, 1758, rfl⟩
abbrev main_call7_call5_v130 : Ref sig .tc := ⟨.hbm, 1759, rfl⟩
abbrev main_call7_call5_v131 : Ref sig .tc := ⟨.hbm, 1760, rfl⟩
abbrev main_call7_call5_c_34 : Ref sig .tc := ⟨.hbm, 1761, rfl⟩
abbrev main_call7_call5_v132 : Ref sig .tc := ⟨.hbm, 1762, rfl⟩
abbrev main_call7_call5_v133 : Ref sig .tc := ⟨.hbm, 1763, rfl⟩
abbrev main_call7_call5_v134 : Ref sig .tc := ⟨.hbm, 1764, rfl⟩
abbrev main_call7_call5_v135 : Ref sig .tc := ⟨.hbm, 1765, rfl⟩
abbrev main_call7_call5_v136 : Ref sig .tc := ⟨.hbm, 1766, rfl⟩
abbrev main_call7_call5_v137 : Ref sig .tc := ⟨.hbm, 1767, rfl⟩
abbrev main_call7_call5_v138 : Ref sig .tc := ⟨.hbm, 1768, rfl⟩
abbrev main_call7_call5_v139 : Ref sig .tc := ⟨.hbm, 1769, rfl⟩
abbrev main_call7_call5_c_35 : Ref sig .tc := ⟨.hbm, 1770, rfl⟩
abbrev main_call7_call5_v140 : Ref sig .tc := ⟨.hbm, 1771, rfl⟩
abbrev main_call7_call5_v141 : Ref sig .tc := ⟨.hbm, 1772, rfl⟩
abbrev main_call7_call5_v142 : Ref sig .tc := ⟨.hbm, 1773, rfl⟩
abbrev main_call7_call5_c_36 : Ref sig .tc := ⟨.hbm, 1774, rfl⟩
abbrev main_call7_call5_v143 : Ref sig .tc := ⟨.hbm, 1775, rfl⟩
abbrev main_call7_call5_v144 : Ref sig .tc := ⟨.hbm, 1776, rfl⟩
abbrev main_call7_call5_c_37 : Ref sig .tc := ⟨.hbm, 1777, rfl⟩
abbrev main_call7_call5_v145 : Ref sig .tc := ⟨.hbm, 1778, rfl⟩
abbrev main_call7_call5_v146 : Ref sig .tc := ⟨.hbm, 1779, rfl⟩
abbrev main_call7_call5_v147 : Ref sig .tc := ⟨.hbm, 1780, rfl⟩
abbrev main_call7_call5_v148 : Ref sig .tc := ⟨.hbm, 1781, rfl⟩
abbrev main_call7_call5_v149 : Ref sig .tc := ⟨.hbm, 1782, rfl⟩
abbrev main_call7_call5_c_38 : Ref sig .tc := ⟨.hbm, 1783, rfl⟩
abbrev main_call7_call5_v150 : Ref sig .tc := ⟨.hbm, 1784, rfl⟩
abbrev main_call7_call5_v151 : Ref sig .tc := ⟨.hbm, 1785, rfl⟩
abbrev main_call7_call5_c_39 : Ref sig .tc := ⟨.hbm, 1786, rfl⟩
abbrev main_call7_call5_v152 : Ref sig .tc := ⟨.hbm, 1787, rfl⟩
abbrev main_call7_call5_v153 : Ref sig .tc := ⟨.hbm, 1788, rfl⟩
abbrev main_call7_call5_v154 : Ref sig .tc := ⟨.hbm, 1789, rfl⟩
abbrev main_call7_call5_v155 : Ref sig .tc := ⟨.hbm, 1790, rfl⟩
abbrev main_call7_call5_v156 : Ref sig .tc := ⟨.hbm, 1791, rfl⟩
abbrev main_call7_call5_c_40 : Ref sig .tc := ⟨.hbm, 1792, rfl⟩
abbrev main_call7_call5_v157 : Ref sig .tc := ⟨.hbm, 1793, rfl⟩
abbrev main_call7_call5_v158 : Ref sig .tc := ⟨.hbm, 1794, rfl⟩
abbrev main_call7_call5_c_41 : Ref sig .tc := ⟨.hbm, 1795, rfl⟩
abbrev main_call7_call5_v159 : Ref sig .tc := ⟨.hbm, 1796, rfl⟩
abbrev main_call7_call5_v160 : Ref sig .tc := ⟨.hbm, 1797, rfl⟩
abbrev main_call7_call5_v161 : Ref sig .tc := ⟨.hbm, 1798, rfl⟩
abbrev main_call7_call5_v162 : Ref sig .tc := ⟨.hbm, 1799, rfl⟩
abbrev main_call7_call5_v163 : Ref sig .tc := ⟨.hbm, 1800, rfl⟩
abbrev main_call7_call5_c_42 : Ref sig .tc := ⟨.hbm, 1801, rfl⟩
abbrev main_call7_call5_v164 : Ref sig .tc := ⟨.hbm, 1802, rfl⟩
abbrev main_call7_call5_v165 : Ref sig .tc := ⟨.hbm, 1803, rfl⟩
abbrev main_call7_call5_c_43 : Ref sig .tc := ⟨.hbm, 1804, rfl⟩
abbrev main_call7_call5_v166 : Ref sig .tc := ⟨.hbm, 1805, rfl⟩
abbrev main_call7_call5_v167 : Ref sig .tc := ⟨.hbm, 1806, rfl⟩
abbrev main_call7_call5_v168 : Ref sig .tc := ⟨.hbm, 1807, rfl⟩
abbrev main_call7_call5_v169 : Ref sig .tc := ⟨.hbm, 1808, rfl⟩
abbrev main_call7_call5_v170 : Ref sig .tc := ⟨.hbm, 1809, rfl⟩
abbrev main_call7_v45_0 : Ref sig .tc := ⟨.hbm, 1810, rfl⟩
abbrev main_call7_call5_v172 : Ref sig .tc := ⟨.hbm, 1811, rfl⟩
abbrev main_call7_call5_v173 : Ref sig .tc := ⟨.hbm, 1812, rfl⟩
abbrev main_call7_call5_c_44 : Ref sig .tc := ⟨.hbm, 1813, rfl⟩
abbrev main_call7_call5_v174 : Ref sig .tc := ⟨.hbm, 1814, rfl⟩
abbrev main_call7_v45_1 : Ref sig .tc := ⟨.hbm, 1815, rfl⟩
abbrev main_call7_v46 : Ref sig .tc := ⟨.hbm, 1816, rfl⟩
abbrev main_call7_v47 : Ref sig .tc := ⟨.hbm, 1817, rfl⟩
abbrev main_call7_v48 : Ref sig .tc := ⟨.hbm, 1818, rfl⟩
abbrev main_call7_v49 : Ref sig .tc := ⟨.hbm, 1819, rfl⟩
abbrev main_call7_c_12 : Ref sig .tc := ⟨.hbm, 1820, rfl⟩
abbrev main_call7_v50 : Ref sig .tc := ⟨.hbm, 1821, rfl⟩
abbrev main_call7_v51 : Ref sig .tc := ⟨.hbm, 1822, rfl⟩
abbrev main_call7_v52 : Ref sig .tc := ⟨.hbm, 1823, rfl⟩
abbrev main_call7_v53 : Ref sig .tc := ⟨.hbm, 1824, rfl⟩
abbrev main_call7_v54 : Ref sig .tc := ⟨.hbm, 1825, rfl⟩
abbrev main_call7_c_13 : Ref sig .tc := ⟨.hbm, 1826, rfl⟩
abbrev main_call7_v55 : Ref sig .tc := ⟨.hbm, 1827, rfl⟩
abbrev main_call7_v56 : Ref sig .tc := ⟨.hbm, 1828, rfl⟩
abbrev main_call7_v57 : Ref sig .tc := ⟨.hbm, 1829, rfl⟩
abbrev main_call7_c_14 : Ref sig .tc := ⟨.hbm, 1830, rfl⟩
abbrev main_call7_v58 : Ref sig .tc := ⟨.hbm, 1831, rfl⟩
abbrev main_call7_v59 : Ref sig .tc := ⟨.hbm, 1832, rfl⟩
abbrev main_call7_v60 : Ref sig .tc := ⟨.hbm, 1833, rfl⟩
abbrev main_call7_v61 : Ref sig .tc := ⟨.hbm, 1834, rfl⟩
abbrev main_call7_v62 : Ref sig .tc := ⟨.hbm, 1835, rfl⟩
abbrev main_call7_v63 : Ref sig .tc := ⟨.hbm, 1836, rfl⟩
abbrev main_call7_v64 : Ref sig .tc := ⟨.hbm, 1837, rfl⟩
abbrev main_call7_v65 : Ref sig .tc := ⟨.hbm, 1838, rfl⟩
abbrev main_call7_v66 : Ref sig .tc := ⟨.hbm, 1839, rfl⟩
abbrev main_call7_v67 : Ref sig .tc := ⟨.hbm, 1840, rfl⟩
abbrev main_call7_v68 : Ref sig .tc := ⟨.hbm, 1841, rfl⟩
abbrev main_call7_v69 : Ref sig .tc := ⟨.hbm, 1842, rfl⟩
abbrev main_call7_v70 : Ref sig .tc := ⟨.hbm, 1843, rfl⟩
abbrev main_call7_v71 : Ref sig .tc := ⟨.hbm, 1844, rfl⟩
abbrev main_call7_v72 : Ref sig .tc := ⟨.hbm, 1845, rfl⟩
abbrev main_v27 : Ref sig .tc := ⟨.hbm, 1846, rfl⟩
abbrev main_v28 : Ref sig .tc := ⟨.hbm, 1847, rfl⟩

abbrev nD : Nat := 1
abbrev τ : Topo := Topo.v7x

variable {F : FTy → Type} [FloatOps F]
-- ==== Proof.Threefry.lean ====
/-
  The random words: the block function both programs compute (20 rounds of add, rotate, xor over a pair of 32-bit words,
  a key word added to each after every four rounds), as a function of a key pair and a counter pair.
-/
module

public import Idealize.ShloMosaic.PureOps

@[expose] public section

namespace Cert.Threefry

/-- One round: add the second word to the first; rotate the second left by `r` (and right by `s = 32 - r`) and xor the sum
    into it. -/
def round (r s : BitVec 32) (x : BitVec 32 × BitVec 32) : BitVec 32 × BitVec 32 :=
  (x.1 + x.2, (x.1 + x.2) ^^^ ((x.2 <<< r) ||| (x.2 >>> s)))

/-- The first, third and fifth groups of four rounds. -/
def roundsA (x : BitVec 32 × BitVec 32) : BitVec 32 × BitVec 32 :=
  round 6#32 26#32 (round 26#32 6#32 (round 15#32 17#32 (round 13#32 19#32 x)))

/-- The second and fourth groups of four rounds. -/
def roundsB (x : BitVec 32 × BitVec 32) : BitVec 32 × BitVec 32 :=
  round 24#32 8#32 (round 16#32 16#32 (round 29#32 3#32 (round 17#32 15#32 x)))

/-- A key word added to each, and the group's number to the second. -/
def inject (a b c : BitVec 32) (x : BitVec 32 × BitVec 32) : BitVec 32 × BitVec 32 := (x.1 + a, x.2 + b + c)

/-- The third key word. -/
def third (k1 k2 : BitVec 32) : BitVec 32 := k1 ^^^ k2 ^^^ 466688986#32

/-- The block function at key `(k1, k2)` and counter `(c1, c2)`. -/
def block (k1 k2 c1 c2 : BitVec 32) : BitVec 32 × BitVec 32 :=
  inject (third k1 k2) k1 5#32 (roundsA (inject k2 (third k1 k2) 4#32 (roundsB (inject k1 k2 3#32
    (roundsA (inject (third k1 k2) k1 2#32 (roundsB (inject k2 (third k1 k2) 1#32 (roundsA (c1 + k1, c2 + k2))))))))))

/-- The random word of a key pair at a counter pair: the two words of the block, xored. -/
def word (k1 k2 c1 c2 : BitVec 32) : BitVec 32 := (block k1 k2 c1 c2).1 ^^^ (block k1 k2 c1 c2).2

end Cert.Threefry
-- ==== Proof.Masking.lean ====
/-
  The masking of one token, as a function of its number, its id and its special-token bit: which random words are drawn and
  what the two results hold.
-/
module

public import proofs.«01_k».proof.Proof.Threefry

@[expose] public section

namespace Cert.Masking

open Idealize.ShloMosaic

/-- The four keys the seed's key `(0, 42)` splits into. -/
def key (q : BitVec 32) : BitVec 32 × BitVec 32 := Threefry.block 0#32 42#32 0#32 q

/-- The key of the random token's word: the second of the two the fourth key splits into. -/
def tokenKey : BitVec 32 × BitVec 32 := Threefry.block (key 3#32).1 (key 3#32).2 0#32 1#32

/-- The random word of a key for token `n`. -/
def draw (k : BitVec 32 × BitVec 32) (n : BitVec 32) : BitVec 32 := Threefry.word k.1 k.2 0#32 n

/-- Whether a word is below a bound. -/
def below (t w : BitVec 32) : BitVec 1 := BitVec.ofBool (w.ult t)

/-- Whether token `n` is masked: with probability 0.15 if it isn't special. -/
def masked (sp : BitVec 1) (n : BitVec 32) : BitVec 1 := below 644245504#32 (draw (key 0#32) n) &&& ~~~sp

/-- Whether it is replaced by the mask token: with probability 0.8 if it is masked. -/
def replaced (sp : BitVec 1) (n : BitVec 32) : BitVec 1 := below 3435974144#32 (draw (key 1#32) n) &&& masked sp n

/-- Whether it becomes a random token: with probability 0.5 if it is masked and not replaced. -/
def randomized (sp : BitVec 1) (n : BitVec 32) : BitVec 1 :=
  (below 2147483648#32 (draw (key 2#32) n) &&& masked sp n) &&& ~~~replaced sp n

/-- The label: the id where masked, else -100. -/
def label (sp : BitVec 1) (x n : BitVec 32) : BitVec 32 := Scalar.select (masked sp n) x 4294967196#32

/-- The token that goes in. -/
def token (sp : BitVec 1) (x n : BitVec 32) : BitVec 32 :=
  Scalar.select (randomized sp n) (draw tokenKey n % 100000#32) (Scalar.select (replaced sp n) 4#32 x)

end Cert.Masking
-- ==== Proof.KernelThreefry.lean ====
/-
  The kernel's random words: the block function over whole vectors, the two constants each group adds to the second word
  summed beforehand; entry by entry it is `Threefry.word`.
-/
module

public import proofs.«01_k».proof.Proof.Gen.KernelIdeal.Skeleton
public import proofs.«01_k».proof.Proof.Masking

@[expose] public section

namespace Cert.KernelIdeal.Words

open Idealize.ShloMosaic Cert.KernelIdeal

/-- A pair of vectors, and its entry at an index. -/
abbrev Pair := IVec S16x2048 32 × IVec S16x2048 32

def at2 (X : Pair) (j : S16x2048.Idx) : BitVec 32 × BitVec 32 := (X.1 j, X.2 j)

/-- One round over vectors. -/
def vround (r s : BitVec 32) (X : Pair) : Pair :=
  (addi X.1 X.2,
   xori (addi X.1 X.2) (ori (shli X.2 (broadcast S16x2048 r)) (shrui X.2 (broadcast S16x2048 s))))

def vroundsA (X : Pair) : Pair :=
  vround 6#32 26#32 (vround 26#32 6#32 (vround 15#32 17#32 (vround 13#32 19#32 X)))

def vroundsB (X : Pair) : Pair :=
  vround 24#32 8#32 (vround 16#32 16#32 (vround 29#32 3#32 (vround 17#32 15#32 X)))

/-- A constant added to each vector. -/
def vinject (a b : BitVec 32) (X : Pair) : Pair := (addi X.1 (broadcast S16x2048 a), addi X.2 (broadcast S16x2048 b))

/-- The block function over vectors, at key `(k1, k2)`, third key word `k3` and the counters `n`. -/
def vblock (k1 k2 k3 : BitVec 32) (n : IVec S16x2048 32) : Pair :=
  vinject k3 (k1 + 5#32) (vroundsA (vinject k2 (k3 + 4#32) (vroundsB (vinject k1 (k2 + 3#32)
    (vroundsA (vinject k3 (k1 + 2#32) (vroundsB (vinject k2 (k3 + 1#32) (vroundsA
      (broadcast S16x2048 k1, addi n (broadcast S16x2048 k2)))))))))))

/-- The random words of a key over vectors. -/
def vword (k1 k2 k3 : BitVec 32) (n : IVec S16x2048 32) : IVec S16x2048 32 :=
  xori (vblock k1 k2 k3 n).1 (vblock k1 k2 k3 n).2

theorem at_vround (r s : BitVec 32) (hr : r.toNat < 32) (hs : s.toNat < 32) (X : Pair) (j : S16x2048.Idx) :
    at2 (vround r s X) j = Threefry.round r s (at2 X j) := by
  refine Prod.ext rfl ?_
  show _ ^^^ (IntOp.shli .vector (X.2 j) r ||| IntOp.shrui .vector (X.2 j) s) = _
  rw [show IntOp.shli .vector (X.2 j) r = X.2 j <<< r from if_pos hr,
    show IntOp.shrui .vector (X.2 j) s = X.2 j >>> s from if_pos hs]
  rfl

theorem at_vroundsA (X : Pair) (j : S16x2048.Idx) : at2 (vroundsA X) j = Threefry.roundsA (at2 X j) := by
  unfold vroundsA Threefry.roundsA
  simp (discharger := decide) only [at_vround]

theorem at_vroundsB (X : Pair) (j : S16x2048.Idx) : at2 (vroundsB X) j = Threefry.roundsB (at2 X j) := by
  unfold vroundsB Threefry.roundsB
  simp (discharger := decide) only [at_vround]

theorem at_vinject (a b c : BitVec 32) (X : Pair) (j : S16x2048.Idx) :
    at2 (vinject a (b + c) X) j = Threefry.inject a b c (at2 X j) :=
  Prod.ext rfl (BitVec.add_assoc (X.2 j) b c).symm

theorem at_vblock (k1 k2 : BitVec 32) (n : IVec S16x2048 32) (j : S16x2048.Idx) :
    at2 (vblock k1 k2 (Threefry.third k1 k2) n) j = Threefry.block k1 k2 0#32 (n j) := by
  unfold vblock Threefry.block
  simp only [at_vinject, at_vroundsA, at_vroundsB]
  rw [show at2 (broadcast S16x2048 k1, addi n (broadcast S16x2048 k2)) j = (0#32 + k1, n j + k2) from
    Prod.ext (BitVec.zero_add k1).symm rfl]

theorem vword_apply (k1 k2 k3 : BitVec 32) (h : k3 = Threefry.third k1 k2) (n : IVec S16x2048 32) (j : S16x2048.Idx) :
    vword k1 k2 k3 n j = Masking.draw (k1, k2) (n j) := by
  subst h
  show (at2 (vblock k1 k2 (Threefry.third k1 k2) n) j).1 ^^^ (at2 (vblock k1 k2 (Threefry.third k1 k2) n) j).2 = _
  rw [at_vblock]; rfl

end Cert.KernelIdeal.Words
-- ==== Proof.KernelBlock.lean ====
/-
  What the kernel's body computes from one block of ids `x0` and of mask words `x1`: entry by entry the masking of
  `Masking.lean`, at the counter the body computes from the grid point.
-/
module

public import proofs.«01_k».proof.Proof.Gen.KernelIdeal.Frame
public import proofs.«01_k».proof.Proof.KernelThreefry
public import Idealize.ShloMosaic.Lib.Pipeline.Value
public import Idealize.ShloMosaic.Lib.Tactic

@[expose] public section

set_option maxRecDepth 20000

noncomputable section

namespace Cert.KernelIdeal.Words

open Idealize.ShloMosaic Idealize.SL.Sem Cert.KernelIdeal Cert.KernelIdeal.Gen

variable {F : FTy → Type} [FloatOps F]

/-! ## The keys -/

theorem key0 : Masking.key 0#32 = (1832780943#32, 270669613#32) := by decide +kernel
theorem key1 : Masking.key 1#32 = (64467757#32, 2916123636#32) := by decide +kernel
theorem key2 : Masking.key 2#32 = (2465931498#32, 255383827#32) := by decide +kernel
theorem tokenKey : Masking.tokenKey = (1914800406#32, 1741898942#32) := by decide +kernel

/-- The counters of the block at a grid point. -/
def counter (i : grid0.Coords) : IVec S16x2048 32 := k0_pay3 i

def words0 (i : grid0.Coords) := vword 1832780943#32 270669613#32 1724713080#32 (counter i)
def words1 (i : grid0.Coords) := vword 64467757#32 2916123636#32 3050711811#32 (counter i)
def words2 (i : grid0.Coords) := vword 2465931498#32 255383827#32 2249384483#32 (counter i)
def words3 (i : grid0.Coords) := vword 1914800406#32 1741898942#32 237229682#32 (counter i)

theorem words0_apply (i : grid0.Coords) (j : S16x2048.Idx) :
    words0 i j = Masking.draw (Masking.key 0#32) (counter i j) := by
  rw [key0]; exact vword_apply _ _ _ (by decide +kernel) _ _
theorem words1_apply (i : grid0.Coords) (j : S16x2048.Idx) :
    words1 i j = Masking.draw (Masking.key 1#32) (counter i j) := by
  rw [key1]; exact vword_apply _ _ _ (by decide +kernel) _ _
theorem words2_apply (i : grid0.Coords) (j : S16x2048.Idx) :
    words2 i j = Masking.draw (Masking.key 2#32) (counter i j) := by
  rw [key2]; exact vword_apply _ _ _ (by decide +kernel) _ _
theorem words3_apply (i : grid0.Coords) (j : S16x2048.Idx) :
    words3 i j = Masking.draw Masking.tokenKey (counter i j) := by
  rw [tokenKey]; exact vword_apply _ _ _ (by decide +kernel) _ _

/-! ## The body's values over these words -/

/-- Where a token is masked. -/
theorem masked_eq (i : grid0.Coords) (x0 x1 : Vec F S16x2048 .i32) :
    k0_pay176 i x0 x1 = andi (cmpi .ult (words0 i) (broadcast S16x2048 644245504#32))
      (xori (k0_pay2 (View.ld x1 r0_0)) (constantI S16x2048 1 1#1)) := by sl_kernel_rfl

/-- Where it is replaced by the mask token. -/
theorem replaced_eq (i : grid0.Coords) (x0 x1 : Vec F S16x2048 .i32) :
    k0_pay183 i x0 x1 = andi (cmpi .ult (words1 i) (broadcast S16x2048 3435974144#32)) (k0_pay176 i x0 x1) := by
  sl_kernel_rfl

/-- Where it becomes a random token: the body's last mask. -/
def random (i : grid0.Coords) (x0 x1 : Vec F S16x2048 .i32) : IVec S16x2048 1 :=
  k0_pay123 (k0_pay176 i x0 x1) (k0_pay183 i x0 x1) (k0_pay121 (k0_pay190 i x0 x1) (k0_pay191 i x0 x1))
    (k0_pay122 (k0_pay190 i x0 x1) (k0_pay191 i x0 x1))

theorem random_eq (i : grid0.Coords) (x0 x1 : Vec F S16x2048 .i32) :
    random i x0 x1 = andi (andi (cmpi .ult (words2 i) (broadcast S16x2048 2147483648#32)) (k0_pay176 i x0 x1))
      (xori (k0_pay183 i x0 x1) (constantI S16x2048 1 1#1)) := by sl_kernel_rfl

/-- The two words of the random token. -/
def last1 (i : grid0.Coords) (x0 x1 : Vec F S16x2048 .i32) : IVec S16x2048 32 :=
  k0_pay166 (k0_pay198 i x0 x1) (k0_pay199 i x0 x1)
def last2 (i : grid0.Coords) (x0 x1 : Vec F S16x2048 .i32) : IVec S16x2048 32 :=
  k0_pay167 (k0_pay198 i x0 x1) (k0_pay199 i x0 x1)

theorem last_eq (i : grid0.Coords) (x0 x1 : Vec F S16x2048 .i32) :
    xori (addi (last1 i x0 x1) (broadcast S16x2048 237229682#32)) (addi (last2 i x0 x1) (broadcast S16x2048 1914800411#32))
      = words3 i := by sl_kernel_rfl

/-! ## At an index -/

theorem not_bit : ∀ b : BitVec 1, b ^^^ 1#1 = ~~~b := by decide

/-- A mask word's special-token bit: whether it isn't zero. -/
def special (x : BitVec 32) : BitVec 1 := IntOp.cmpi .ne x 0#32

theorem masked_apply (i : grid0.Coords) (x0 x1 : Vec F S16x2048 .i32) (j : S16x2048.Idx) :
    k0_pay176 i x0 x1 j = Masking.masked (special (View.ld x1 r0_0 j)) (counter i j) := by
  rw [masked_eq]
  show Masking.below 644245504#32 (words0 i j) &&& (special (View.ld x1 r0_0 j) ^^^ 1#1) = _
  rw [words0_apply, not_bit]; rfl

theorem replaced_apply (i : grid0.Coords) (x0 x1 : Vec F S16x2048 .i32) (j : S16x2048.Idx) :
    k0_pay183 i x0 x1 j = Masking.replaced (special (View.ld x1 r0_0 j)) (counter i j) := by
  rw [replaced_eq]
  show Masking.below 3435974144#32 (words1 i j) &&& k0_pay176 i x0 x1 j = _
  rw [words1_apply, masked_apply]; rfl

theorem random_apply (i : grid0.Coords) (x0 x1 : Vec F S16x2048 .i32) (j : S16x2048.Idx) :
    random i x0 x1 j = Masking.randomized (special (View.ld x1 r0_0 j)) (counter i j) := by
  rw [random_eq]
  show (Masking.below 2147483648#32 (words2 i j) &&& k0_pay176 i x0 x1 j) &&& (k0_pay183 i x0 x1 j ^^^ 1#1) = _
  rw [words2_apply, masked_apply, replaced_apply, not_bit]; rfl

/-- The remainder as the body takes it, its sign's correction never made: both operands are unsigned. -/
theorem remainder (w : BitVec 32) :
    Scalar.select (IntOp.andi (IntOp.xori (IntOp.cmpi .ult (IntOp.remui .vector w 100000#32) 0#32)
        (IntOp.cmpi .ult 100000#32 0#32)) (IntOp.cmpi .ne (IntOp.remui .vector w 100000#32) 0#32))
      (IntOp.addi (IntOp.remui .vector w 100000#32) 100000#32) (IntOp.remui .vector w 100000#32) = w % 100000#32 := by
  have h : IntOp.remui .vector w 100000#32 = w % 100000#32 := if_neg (by decide)
  rw [h]
  have z : IntOp.cmpi .ult (w % 100000#32) 0#32 = 0#1 := by
    show BitVec.ofBool ((w % 100000#32).ult 0#32) = 0#1
    rw [show (w % 100000#32).ult 0#32 = false from decide_eq_false (Nat.not_lt_zero _)]; rfl
  rw [z]
  have z' : IntOp.xori 0#1 (IntOp.cmpi .ult 100000#32 0#32) = 0#1 := by decide
  rw [z']
  have z'' : ∀ b : BitVec 1, IntOp.andi 0#1 b = 0#1 := by decide
  rw [z'']
  exact if_neg (by decide)

/-- The stored tokens at an index. -/
theorem stored_apply (v0 : Vec F S16x2048 .i32) (a b : IVec S16x2048 1) (u v : IVec S16x2048 32) (j : S16x2048.Idx) :
    k0_pay1 v0 a b u v j = Scalar.select (b j)
      (xori (addi u (broadcast S16x2048 237229682#32)) (addi v (broadcast S16x2048 1914800411#32)) j % 100000#32)
      (Scalar.select (a j) 4#32 (v0 j)) := by
  rw [← remainder]; rfl

/-- A load of a whole block reads the block. -/
theorem ld_whole (x : Vec F S16x2048 .i32) : View.ld x r0_0 = x :=
  View.ld_unit_zero (funext fun a => by fin_cases a <;> rfl) inb_S16x2048_S16x2048_0_0 x

/-- A store of a whole block leaves what is stored. -/
theorem canon_whole (p : Vec F S16x2048 .i32) : View.canon [(⟨r0_0, p⟩ : View.Piece (Elt F) S16x2048 .i32)] = p :=
  View.canon_unit_zero (funext fun a => by fin_cases a <;> rfl) inb_S16x2048_S16x2048_0_0 p

/-- The tokens that the body leaves. -/
theorem out_token (i : grid0.Coords) (x0 x1 : Vec F S16x2048 .i32) (j : S16x2048.Idx) :
    out0_2 i x0 x1 j = Masking.token (special (x1 j)) (x0 j) (counter i j) := by
  have h : out0_2 i x0 x1 = k0_pay1 (View.ld x0 r0_0) (k0_pay183 i x0 x1) (random i x0 x1) (last1 i x0 x1) (last2 i x0 x1) :=
    canon_whole _
  rw [h, stored_apply, last_eq, words3_apply, random_apply, replaced_apply, ld_whole, ld_whole]; rfl

/-- The labels that the body leaves. -/
theorem out_label (i : grid0.Coords) (x0 x1 : Vec F S16x2048 .i32) (j : S16x2048.Idx) :
    out0_3 i x0 x1 j = Masking.label (special (x1 j)) (x0 j) (counter i j) := by
  have h : out0_3 i x0 x1 = k0_pay42 (View.ld x0 r0_0) (k0_pay174 i x0 x1) (k0_pay175 i x0 x1) := canon_whole _
  rw [h]
  show Scalar.select (k0_pay176 i x0 x1 j) (View.ld x0 r0_0 j) 4294967196#32 = _
  rw [masked_apply, ld_whole, ld_whole]; rfl

/-- The counter of a block's entry: the token's number, the rows laid end to end. -/
theorem counter_apply (i : grid0.Coords) (j : S16x2048.Idx) :
    counter i j = BitVec.ofNat 32 (2048 * (16 * (i 0).val + (j 0).val) + (j 1).val) := by
  show BitVec.ofNat 32 (i 0).val * 32768#32 + BitVec.ofNat 32 (0 * 16 + (j 0).val) * 2048#32
    + BitVec.ofNat 32 (0 * 2048 + (j 1).val) = _
  rw [← BitVec.ofNat_mul, ← BitVec.ofNat_mul, ← BitVec.ofNat_add, ← BitVec.ofNat_add]
  congr 1; omega

end Cert.KernelIdeal.Words
-- ==== Proof.KernelArray.lean ====
/-
  The kernel's two result arrays after the run: entry by entry the masking of `Masking.lean`.
-/
module

public import proofs.«01_k».proof.Proof.Gen.KernelIdeal.Value
public import proofs.«01_k».proof.Proof.KernelBlock

@[expose] public section

noncomputable section

namespace Cert.KernelIdeal.Words

open Idealize.ShloMosaic Idealize.ShloMosaic.TcCoe Idealize.SL.Sem
open Cert.KernelIdeal Cert.KernelIdeal.Gen

variable {F : FTy → Type} [FloatOps F]

/-- A token's number. -/
def number (i : S128x2048.Idx) : BitVec 32 := BitVec.ofNat 32 (2048 * (i 0).val + (i 1).val)

/-- The two result arrays from the ids and the special-token bits. -/
def tokens (x : Vec F S128x2048 .i32) (sp : Vec F S128x2048 .i1) : Vec F S128x2048 .i32 :=
  fun i => Masking.token (sp i) (x i) (number i)
def labels (x : Vec F S128x2048 .i32) (sp : Vec F S128x2048 .i1) : Vec F S128x2048 .i32 :=
  fun i => Masking.label (sp i) (x i) (number i)

/-! ## Where a block's entries lie -/

theorem index_eq : ∀ t : Fin cfg0.N,
    (win0_0.index t (0 : Fin 2) = (grid0.coords t 0).val ∧ win0_0.index t (1 : Fin 2) = 0)
    ∧ (win0_1.index t (0 : Fin 2) = (grid0.coords t 0).val ∧ win0_1.index t (1 : Fin 2) = 0)
    ∧ (win0_2.index t (0 : Fin 2) = (grid0.coords t 0).val ∧ win0_2.index t (1 : Fin 2) = 0)
    ∧ (win0_3.index t (0 : Fin 2) = (grid0.coords t 0).val ∧ win0_3.index t (1 : Fin 2) = 0) :=
  (by decide +kernel : ∀ t : Fin grid0.N, _)

/-- Every row lies in a block. -/
theorem row_covered : ∀ r : Fin 128, ∃ t : Fin cfg0.N, (grid0.coords t 0).val = r.val / 16 :=
  (by decide +kernel : ∀ r : Fin 128, ∃ t : Fin grid0.N, (grid0.coords t 0).val = r.val / 16)

theorem point_lt (t : Fin cfg0.N) : (grid0.coords t 0).val < 8 := (grid0.coords t 0).isLt

/-- Where entry `j` of the block at point `t` lies in the array. -/
def place (t : Fin cfg0.N) (j : S16x2048.Idx) : S128x2048.Idx := fun a => match a with
  | ⟨0, _⟩ => ⟨16 * (grid0.coords t 0).val + (j 0).val, by
      have h1 := point_lt t; have h2 : (j 0).val < 16 := (j 0).isLt
      show _ < 128; omega⟩
  | ⟨1, _⟩ => ⟨(j 1).val, (j 1).isLt⟩

theorem emb0 (t : Fin cfg0.N) (j : S16x2048.Idx) : ((cfg0.win 0).blk t).view.emb j = place t j := by
  obtain ⟨⟨e0, e1⟩, -⟩ := index_eq t
  funext a; apply Fin.ext
  match a with
  | ⟨0, _⟩ => show win0_0.index t (0 : Fin 2) * 16 + 1 * (j 0).val = 16 * (grid0.coords t 0).val + (j 0).val; omega
  | ⟨1, _⟩ => show win0_0.index t (1 : Fin 2) * 2048 + 1 * (j 1).val = (j 1).val; omega

theorem emb1 (t : Fin cfg0.N) (j : S16x2048.Idx) : ((cfg0.win 1).blk t).view.emb j = place t j := by
  obtain ⟨-, ⟨e0, e1⟩, -⟩ := index_eq t
  funext a; apply Fin.ext
  match a with
  | ⟨0, _⟩ => show win0_1.index t (0 : Fin 2) * 16 + 1 * (j 0).val = 16 * (grid0.coords t 0).val + (j 0).val; omega
  | ⟨1, _⟩ => show win0_1.index t (1 : Fin 2) * 2048 + 1 * (j 1).val = (j 1).val; omega

theorem emb2 (t : Fin cfg0.N) (j : S16x2048.Idx) : ((cfg0.win 2).blk t).view.emb j = place t j := by
  obtain ⟨-, -, ⟨e0, e1⟩, -⟩ := index_eq t
  funext a; apply Fin.ext
  match a with
  | ⟨0, _⟩ => show win0_2.index t (0 : Fin 2) * 16 + 1 * (j 0).val = 16 * (grid0.coords t 0).val + (j 0).val; omega
  | ⟨1, _⟩ => show win0_2.index t (1 : Fin 2) * 2048 + 1 * (j 1).val = (j 1).val; omega

theorem emb3 (t : Fin cfg0.N) (j : S16x2048.Idx) : ((cfg0.win 3).blk t).view.emb j = place t j := by
  obtain ⟨-, -, -, e0, e1⟩ := index_eq t
  funext a; apply Fin.ext
  match a with
  | ⟨0, _⟩ => show win0_3.index t (0 : Fin 2) * 16 + 1 * (j 0).val = 16 * (grid0.coords t 0).val + (j 0).val; omega
  | ⟨1, _⟩ => show win0_3.index t (1 : Fin 2) * 2048 + 1 * (j 1).val = (j 1).val; omega

/-- Every index is some block's entry. -/
theorem exists_place (i : S128x2048.Idx) : ∃ t j, place t j = i := by
  obtain ⟨t, h⟩ := row_covered (i 0)
  refine ⟨t, fun a => match a with
    | ⟨0, _⟩ => ⟨(i 0).val % 16, Nat.mod_lt _ (by decide)⟩
    | ⟨1, _⟩ => ⟨(i 1).val, (i 1).isLt⟩, ?_⟩
  funext a; apply Fin.ext
  match a with
  | ⟨0, _⟩ => show 16 * (grid0.coords t 0).val + (i 0).val % 16 = (i 0).val; omega
  | ⟨1, _⟩ => rfl

/-- A block's counter is the number of the token there. -/
theorem counter_place (t : Fin cfg0.N) (j : S16x2048.Idx) : counter (grid0.coords t) j = number (place t j) :=
  counter_apply _ _

/-! ## The inputs' blocks -/

variable (m : (ℓ : Loc nD τ sig) → Buf (Elt F) ℓ)

/-- The ids as launched. -/
def ids (c : Dev nD) : Vec F S128x2048 .i32 := m ((c : Thread nD τ).loc main_arg0)
/-- The special-token bits as launched. -/
def bits (c : Dev nD) : Vec F S128x2048 .i1 := m ((c : Thread nD τ).loc main_arg1)

/-- The region finds the bits widened to words. -/
theorem V_words (c : Dev nD) : V m c main_v0 = extui 32 (bits m c) natLt_1_32 := by
  show StableHlo.after hostOps0 (fun b => m (c, b)) (Proc.devRef .tc main_v0) = _
  rw [StableHlo.after_cons, StableHlo.after_nil]
  exact StableHlo.unary_result main_arg1 main_v0 _ _ _ _

theorem special_widened : ∀ b : BitVec 1, special (b.setWidth 32) = b := by decide

theorem ids_block (c : Dev nD) (t : Fin cfg0.N) (j : S16x2048.Idx) : iblk m c 0 t j = ids m c (place t j) := by
  show V m c main_arg0 (((cfg0.win 0).blk t).view.emb j) = _
  rw [emb0, V_main_arg0]; rfl

theorem bits_block (c : Dev nD) (t : Fin cfg0.N) (j : S16x2048.Idx) :
    special (iblk m c 1 t j) = bits m c (place t j) := by
  show special (V m c main_v0 (((cfg0.win 1).blk t).view.emb j)) = _
  rw [emb1, V_words]
  exact special_widened _

/-! ## The results -/

theorem tokens_apply (x : Vec F S128x2048 .i32) (sp : Vec F S128x2048 .i1) (i : S128x2048.Idx) :
    tokens x sp i = Masking.token (sp i) (x i) (number i) := rfl
theorem labels_apply (x : Vec F S128x2048 .i32) (sp : Vec F S128x2048 .i1) (i : S128x2048.Idx) :
    labels x sp i = Masking.label (sp i) (x i) (number i) := rfl

/-- A buffer's part that is written back is the whole of it, entry by entry. -/
theorem cut2 (t : Fin cfg0.N) (X : Vec F S16x2048 .i32) (j : S16x2048.Idx) :
    (cfg0.win 2).cut (grid0.coords t) X j = X j := rfl
theorem cut3 (t : Fin cfg0.N) (X : Vec F S16x2048 .i32) (j : S16x2048.Idx) :
    (cfg0.win 3).cut (grid0.coords t) X j = X j := rfl

/-- A block of an array, read at an entry. -/
theorem read2 (t : Fin cfg0.N) (G : Vec F S128x2048 .i32) (j : S16x2048.Idx) :
    ((cfg0.win 2).blk t).view.read (Elt F) G j = G (place t j) := congrArg G (emb2 t j)
theorem read3 (t : Fin cfg0.N) (G : Vec F S128x2048 .i32) (j : S16x2048.Idx) :
    ((cfg0.win 3).blk t).view.read (Elt F) G j = G (place t j) := congrArg G (emb3 t j)

/-- The tokens and the labels that a point leaves, entry by entry. -/
theorem token_at (c : Dev nD) (t : Fin cfg0.N) (j : S16x2048.Idx) :
    out0_2 (grid0.coords t) (iblk m c 0 t) (iblk m c 1 t) j = tokens (ids m c) (bits m c) (place t j) := by
  refine (out_token (grid0.coords t) (iblk m c 0 t) (iblk m c 1 t) j).trans ?_
  rw [tokens_apply, counter_place, ids_block, bits_block]
theorem label_at (c : Dev nD) (t : Fin cfg0.N) (j : S16x2048.Idx) :
    out0_3 (grid0.coords t) (iblk m c 0 t) (iblk m c 1 t) j = labels (ids m c) (bits m c) (place t j) := by
  refine (out_label (grid0.coords t) (iblk m c 0 t) (iblk m c 1 t) j).trans ?_
  rw [labels_apply, counter_place, ids_block, bits_block]

theorem flushed_tokens (c : Dev nD) (t : Fin cfg0.N) :
    (dats m 0 c).flushed 2 t = ((cfg0.win 2).blk t).view.read (Elt F) (tokens (ids m c) (bits m c)) :=
  (Value.flushed2 m c t).trans (funext fun j =>
    (cut2 t _ j).trans ((token_at m c t j).trans (read2 t (tokens (ids m c) (bits m c)) j).symm))

theorem flushed_labels (c : Dev nD) (t : Fin cfg0.N) :
    (dats m 0 c).flushed 3 t = ((cfg0.win 3).blk t).view.read (Elt F) (labels (ids m c) (bits m c)) :=
  (Value.flushed3 m c t).trans (funext fun j =>
    (cut3 t _ j).trans ((label_at m c t j).trans (read3 t (labels (ids m c) (bits m c)) j).symm))

theorem final_tokens (c : Dev nD) : (dats m 0 c).arrAt 2 cfg0.N = tokens (ids m c) (bits m c) :=
  (dats m 0 c).arrAt_eq_of_cover 2 (tokens (ids m c) (bits m c)) (fun t _ => flushed_tokens m c t) fun i => by
    obtain ⟨t, j, h⟩ := exists_place i
    have hm := ((cfg0.win 2).blk t).view.emb_mem_set j
    rw [emb2, h] at hm
    exact ⟨t, flush0_2 t, hm⟩

theorem final_labels (c : Dev nD) : (dats m 0 c).arrAt 3 cfg0.N = labels (ids m c) (bits m c) :=
  (dats m 0 c).arrAt_eq_of_cover 3 (labels (ids m c) (bits m c)) (fun t _ => flushed_labels m c t) fun i => by
    obtain ⟨t, j, h⟩ := exists_place i
    have hm := ((cfg0.win 3).blk t).view.emb_mem_set j
    rw [emb3, h] at hm
    exact ⟨t, flush0_3 t, hm⟩

end Cert.KernelIdeal.Words

end
-- ==== Proof.Line.lean ====
/-
  Straight lines of host operations, read as systems of equations.

  A line in which every operation writes a buffer of a larger index than every buffer it reads, and no buffer
  twice, ends in a state that is a FIXED POINT of each of its operations: each result buffer holds its operation's value of
  what the operand buffers hold AT THE END. So the final state of such a line is described by one equation per
  operation, all about the same state, and a module-local function's meaning can be proved once, from its
  equations, for every call of it.

  `Node op` is an operation with its reads, its write and its equation; `Line p` is a program with the operations
  it runs; `Line.after_eqn` is the statement above, for a line whose indices `ascending` has checked.
-/
module

public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}

/-- What a state holds at a typed reference, at the value's type. -/
def get {T : BufTy} (x : TRef sig T) (W : Valuation τ sig Val) : T.Contents Val :=
  x.ofBuf (W (Proc.devRef .tc x.ref))

/-- What a state holds at a buffer. -/
def at' (x : Ref sig .tc) (W : Valuation τ sig Val) : x.ty.Contents Val := W (Proc.devRef .tc x)

theorem get_of {T : BufTy} (r : Ref sig .tc) (h : r.ty = T) (h1 h2) (W : Valuation τ sig Val) :
    get (⟨r, h, h1, h2⟩ : TRef sig T) W = cast (congrArg (fun U : BufTy => U.Contents Val) h) (at' r W) := rfl

/-- One operation: the references it reads, the one it writes, and the equation a fixed point of it satisfies. -/
structure Node (op : HloOp τ sig Val) where
  reads : List (Ref sig .tc)
  target : Ref sig .tc
  eqn : Valuation τ sig Val → Prop
  writes_eq : op.writes = {Proc.devRef .tc target}
  fresh_eq : op.fresh = ∅
  bufs_sub : op.bufs ⊆ tcRefs τ sig
  local_ : ∀ F G : Valuation τ sig Val, (∀ x ∈ reads, F (Proc.devRef .tc x) = G (Proc.devRef .tc x)) →
    op.result F (Proc.devRef .tc target) = op.result G (Proc.devRef .tc target)
  sound : ∀ W : Valuation τ sig Val, W (Proc.devRef .tc target) = op.result W (Proc.devRef .tc target) → eqn W

section Nodes

variable {Tx Ta Tb Tc Ty : BufTy}

private theorem mem2 {α : Type*} (a b : α) : b ∈ [a, b] := by simp
private theorem mem3 {α : Type*} (a b c : α) : c ∈ [a, b, c] := by simp
private theorem mem3' {α : Type*} (a b c : α) : b ∈ [a, b, c] := by simp

def Node.nullary (y : Ref sig .tc) (v : y.ty.Contents Val) (hy) : Node (StableHlo.nullary (τ := τ) y v hy) where
  reads := []
  target := y
  eqn W := at' y W = v
  writes_eq := nullary_writes ..
  fresh_eq := rfl
  bufs_sub := nullary_bufs_sub ..
  local_ F G _ := by rw [nullary_result, nullary_result]
  sound W h := by rw [nullary_result] at h; exact h

def Node.unary (x y : Ref sig .tc) (f : x.ty.Contents Val → y.ty.Contents Val) (hx hy) :
    Node (StableHlo.unary (τ := τ) x y f hx hy) where
  reads := [x]
  target := y
  eqn W := at' y W = f (at' x W)
  writes_eq := unary_writes ..
  fresh_eq := rfl
  bufs_sub := unary_bufs_sub ..
  local_ F G h := by rw [unary_result, unary_result, h x List.mem_cons_self]
  sound W h := by rw [unary_result] at h; exact h

def Node.binary (a b y : Ref sig .tc) (f : a.ty.Contents Val → b.ty.Contents Val → y.ty.Contents Val) (ha hb hy) :
    Node (StableHlo.binary (τ := τ) a b y f ha hb hy) where
  reads := [a, b]
  target := y
  eqn W := at' y W = f (at' a W) (at' b W)
  writes_eq := binary_writes ..
  fresh_eq := rfl
  bufs_sub := binary_bufs_sub ..
  local_ F G h := by rw [binary_result, binary_result, h a List.mem_cons_self, h b (mem2 _ _)]
  sound W h := by rw [binary_result] at h; exact h

def Node.reshape (x y : Ref sig .tc) (he : x.ty.elt = y.ty.elt) (hn : x.ty.shape.ShapeCasts y.ty.shape) (hx hy) :
    Node (StableHlo.reshape (τ := τ) (Val := Val) x y he hn hx hy) where
  reads := [x]
  target := y
  eqn W := at' y W = fun i => he ▸ shapeCast y.ty.shape (at' x W) hn i
  writes_eq := reshape_writes ..
  fresh_eq := rfl
  bufs_sub := reshape_bufs_sub ..
  local_ F G h := by rw [reshape_result, reshape_result, h x List.mem_cons_self]
  sound W h := by rw [reshape_result] at h; exact h

private theorem ofBuf_of_eq {T : BufTy} (y : TRef sig T) {u : y.ref.ty.Contents Val} {v : T.Contents Val}
    (h : u = y.toBuf v) : y.ofBuf u = v := by
  subst h; exact TRef.ofBuf_toBuf y v

def Node.tnullary (y : TRef sig Ty) (v : Ty.Contents Val) : Node (TRef.nullary (τ := τ) y v) where
  reads := []
  target := y.ref
  eqn W := get y W = v
  writes_eq := nullary_writes ..
  fresh_eq := rfl
  bufs_sub := nullary_bufs_sub ..
  local_ F G _ := by rw [nullary_result, nullary_result]
  sound W h := by rw [nullary_result] at h; exact ofBuf_of_eq y h

def Node.tunary (x : TRef sig Tx) (y : TRef sig Ty) (f : Tx.Contents Val → Ty.Contents Val) :
    Node (TRef.unary (τ := τ) x y f) where
  reads := [x.ref]
  target := y.ref
  eqn W := get y W = f (get x W)
  writes_eq := unary_writes ..
  fresh_eq := rfl
  bufs_sub := unary_bufs_sub ..
  local_ F G h := by rw [unary_result, unary_result, h x.ref List.mem_cons_self]
  sound W h := by rw [unary_result] at h; exact ofBuf_of_eq y h

def Node.tbinary (a : TRef sig Ta) (b : TRef sig Tb) (y : TRef sig Ty) (f : Ta.Contents Val → Tb.Contents Val → Ty.Contents Val) :
    Node (TRef.binary (τ := τ) a b y f) where
  reads := [a.ref, b.ref]
  target := y.ref
  eqn W := get y W = f (get a W) (get b W)
  writes_eq := binary_writes ..
  fresh_eq := rfl
  bufs_sub := binary_bufs_sub ..
  local_ F G h := by rw [binary_result, binary_result, h a.ref List.mem_cons_self, h b.ref (mem2 _ _)]
  sound W h := by rw [binary_result] at h; exact ofBuf_of_eq y h

def Node.tternary (c : TRef sig Tc) (a : TRef sig Ta) (b : TRef sig Tb) (y : TRef sig Ty)
    (f : Tc.Contents Val → Ta.Contents Val → Tb.Contents Val → Ty.Contents Val) :
    Node (TRef.ternary (τ := τ) c a b y f) where
  reads := [c.ref, a.ref, b.ref]
  target := y.ref
  eqn W := get y W = f (get c W) (get a W) (get b W)
  writes_eq := ternary_writes ..
  fresh_eq := rfl
  bufs_sub := ternary_bufs_sub ..
  local_ F G h := by
    rw [ternary_result, ternary_result, h c.ref List.mem_cons_self, h a.ref (mem3' _ _ _), h b.ref (mem3 _ _ _)]
  sound W h := by rw [ternary_result] at h; exact ofBuf_of_eq y h

def Node.treshape (x : TRef sig Tx) (y : TRef sig Ty) (he : Tx.elt = Ty.elt) (hn : Tx.shape.ShapeCasts Ty.shape) :
    Node (TRef.reshape (τ := τ) (Val := Val) x y he hn) where
  reads := [x.ref]
  target := y.ref
  eqn W := get y W = fun i => he ▸ shapeCast Ty.shape (get x W) hn i
  writes_eq := reshape_writes ..
  fresh_eq := rfl
  bufs_sub := reshape_bufs_sub ..
  local_ F G h := by rw [reshape_result, reshape_result, h x.ref List.mem_cons_self]
  sound W h := by
    rw [reshape_result] at h
    obtain ⟨rx, ex, dx, ux⟩ := x
    obtain ⟨ry, ey, dy, uy⟩ := y
    subst ex; subst ey
    exact h

end Nodes

/-- A program that runs the operations `ops` in order, with what each reads and writes and the equations a common
    fixed point of them satisfies. -/
structure Line (p : Prog (TpuEff nD τ sig Val Λ .tc) PUnit) where
  ops : List (HloOp τ sig Val)
  prog : p = seq ops
  log : List (List (Ref sig .tc) × Ref sig .tc)
  eqn : Valuation τ sig Val → Prop
  good : List.Forall₂ (fun op (l : List (Ref sig .tc) × Ref sig .tc) =>
    op.writes = {Proc.devRef .tc l.2} ∧ op.fresh = ∅ ∧ op.bufs ⊆ tcRefs τ sig ∧
      ∀ F G : Valuation τ sig Val, (∀ x ∈ l.1, F (Proc.devRef .tc x) = G (Proc.devRef .tc x)) →
        op.result F (Proc.devRef .tc l.2) = op.result G (Proc.devRef .tc l.2)) ops log
  sound : ∀ W : Valuation τ sig Val,
    (List.Forall₂ (fun op (l : List (Ref sig .tc) × Ref sig .tc) =>
      W (Proc.devRef .tc l.2) = op.result W (Proc.devRef .tc l.2)) ops log) → eqn W

/-- The return. -/
def Line.nil : Line (nD := nD) (τ := τ) (sig := sig) (Val := Val) (Λ := Λ) (pure ⟨⟩) where
  ops := []
  prog := rfl
  log := []
  eqn _ := True
  good := .nil
  sound _ _ := trivial

/-- One operation. -/
def Line.one {op : HloOp τ sig Val} (n : Node op) :
    Line (nD := nD) (Λ := Λ) (hlo rfl op fun _ => .ret (⟨⟩ : PUnit)) where
  ops := [op]
  prog := rfl
  log := [(n.reads, n.target)]
  eqn := n.eqn
  good := .cons ⟨n.writes_eq, n.fresh_eq, n.bufs_sub, n.local_⟩ .nil
  sound W h := by cases h with | cons h _ => exact n.sound W h

/-- One line, then another. -/
def Line.call {p q : Prog (TpuEff nD τ sig Val Λ .tc) PUnit} (a : Line p) (b : Line q) : Line (p >>= fun _ => q) where
  ops := a.ops ++ b.ops
  prog := by rw [seq_append, ← a.prog, ← b.prog]
  log := a.log ++ b.log
  eqn W := a.eqn W ∧ b.eqn W
  good := List.rel_append a.good b.good
  sound W h := by
    have ha := List.Forall₂.length_eq a.good
    refine ⟨a.sound W ?_, b.sound W ?_⟩
    · have := List.forall₂_take a.ops.length h
      rwa [List.take_left, ha, List.take_left] at this
    · have := List.forall₂_drop a.ops.length h
      rwa [List.drop_left, ha, List.drop_left] at this

/-- A line of a program is one of every program that is, by definition, the same. -/
def Line.as {p q : Prog (TpuEff nD τ sig Val Λ .tc) PUnit} (h : q = p) (a : Line p) : Line q where
  ops := a.ops
  prog := h.trans a.prog
  log := a.log
  eqn := a.eqn
  good := a.good
  sound := a.sound

/-! ### The equations, read off -/

theorem eqn_as {p q : Prog (TpuEff nD τ sig Val Λ .tc) PUnit} (h : q = p) (a : Line p) (W : Valuation τ sig Val) :
    (Line.as h a).eqn W = a.eqn W := rfl

theorem eqn_nil (W : Valuation τ sig Val) :
    (Line.nil : Line (nD := nD) (Λ := Λ) (Val := Val) (pure ⟨⟩)).eqn W = True := rfl
theorem eqn_one {op : HloOp τ sig Val} (n : Node op) (W : Valuation τ sig Val) :
    (Line.one (nD := nD) (Λ := Λ) n).eqn W = n.eqn W := rfl
theorem eqn_call {p q : Prog (TpuEff nD τ sig Val Λ .tc) PUnit} (a : Line p) (b : Line q) (W : Valuation τ sig Val) :
    (Line.call a b).eqn W = (a.eqn W ∧ b.eqn W) := rfl
theorem eqn_nullary (y : Ref sig .tc) (v : y.ty.Contents Val) (hy) (W : Valuation τ sig Val) :
    (Node.nullary y v hy).eqn W = (at' y W = v) := rfl
theorem eqn_unary (x y : Ref sig .tc) (f : x.ty.Contents Val → y.ty.Contents Val) (hx hy) (W : Valuation τ sig Val) :
    (Node.unary x y f hx hy).eqn W = (at' y W = f (at' x W)) := rfl
theorem eqn_binary (a b y : Ref sig .tc) (f : a.ty.Contents Val → b.ty.Contents Val → y.ty.Contents Val) (ha hb hy)
    (W : Valuation τ sig Val) : (Node.binary a b y f ha hb hy).eqn W = (at' y W = f (at' a W) (at' b W)) := rfl
theorem eqn_reshape (x y : Ref sig .tc) (he : x.ty.elt = y.ty.elt) (hn : x.ty.shape.ShapeCasts y.ty.shape) (hx hy)
    (W : Valuation τ sig Val) :
    (Node.reshape x y he hn hx hy).eqn W = (at' y W = fun i => he ▸ shapeCast y.ty.shape (at' x W) hn i) := rfl
section
variable {Tx Ta Tb Tc Ty : BufTy}
theorem eqn_tnullary (y : TRef sig Ty) (v : Ty.Contents Val) (W : Valuation τ sig Val) :
    (Node.tnullary y v).eqn W = (get y W = v) := rfl
theorem eqn_tunary (x : TRef sig Tx) (y : TRef sig Ty) (f : Tx.Contents Val → Ty.Contents Val) (W : Valuation τ sig Val) :
    (Node.tunary x y f).eqn W = (get y W = f (get x W)) := rfl
theorem eqn_tbinary (a : TRef sig Ta) (b : TRef sig Tb) (y : TRef sig Ty)
    (f : Ta.Contents Val → Tb.Contents Val → Ty.Contents Val) (W : Valuation τ sig Val) :
    (Node.tbinary a b y f).eqn W = (get y W = f (get a W) (get b W)) := rfl
theorem eqn_tternary (c : TRef sig Tc) (a : TRef sig Ta) (b : TRef sig Tb) (y : TRef sig Ty)
    (f : Tc.Contents Val → Ta.Contents Val → Tb.Contents Val → Ty.Contents Val) (W : Valuation τ sig Val) :
    (Node.tternary c a b y f).eqn W = (get y W = f (get c W) (get a W) (get b W)) := rfl
theorem eqn_treshape (x : TRef sig Tx) (y : TRef sig Ty) (he : Tx.elt = Ty.elt) (hn : Tx.shape.ShapeCasts Ty.shape)
    (W : Valuation τ sig Val) :
    (Node.treshape x y he hn).eqn W = (get y W = fun i => he ▸ shapeCast Ty.shape (get x W) hn i) := rfl
end

/-- A reference's index. -/
def rank (r : Ref sig .tc) : Nat := r.idx.val

/-- Every line of the log writes a reference of index at least `n`, above those it reads, each above the last. -/
def ascending : Nat → List (List (Ref sig .tc) × Ref sig .tc) → Bool
  | _, [] => true
  | n, l :: ls => Nat.ble n (rank l.2) && (l.1.all fun x => Nat.blt (rank x) (rank l.2)) && ascending (rank l.2 + 1) ls

theorem after_facts : ∀ (n : Nat) (ops : List (HloOp τ sig Val)) (log : List (List (Ref sig .tc) × Ref sig .tc)),
    List.Forall₂ (fun op (l : List (Ref sig .tc) × Ref sig .tc) =>
      op.writes = {Proc.devRef .tc l.2} ∧ op.fresh = ∅ ∧ op.bufs ⊆ tcRefs τ sig ∧
        ∀ F G : Valuation τ sig Val, (∀ x ∈ l.1, F (Proc.devRef .tc x) = G (Proc.devRef .tc x)) →
          op.result F (Proc.devRef .tc l.2) = op.result G (Proc.devRef .tc l.2)) ops log →
    ascending n log = true → ∀ V : Valuation τ sig Val,
    (∀ r : Ref sig .tc, rank r < n → after ops V (Proc.devRef .tc r) = V (Proc.devRef .tc r)) ∧
    List.Forall₂ (fun op (l : List (Ref sig .tc) × Ref sig .tc) =>
      after ops V (Proc.devRef .tc l.2) = op.result (after ops V) (Proc.devRef .tc l.2)) ops log
  | n, [], _, .nil, _, V => ⟨fun _ _ => rfl, .nil⟩
  | n, op :: ops, l :: log, .cons ⟨hw, _, _, hl⟩ hrest, hasc, V => by
    simp only [ascending, Bool.and_eq_true, Nat.ble_eq, List.all_eq_true, Nat.blt_eq] at hasc
    obtain ⟨⟨hn, hr⟩, ha⟩ := hasc
    obtain ⟨hk, hf⟩ := after_facts _ ops log hrest ha (op.result V)
    have hkeep : ∀ r : Ref sig .tc, rank r < rank l.2 → op.result V (Proc.devRef .tc r) = V (Proc.devRef .tc r) := by
      intro r h
      refine op.result_of_not_mem V ?_
      rw [hw, Finset.mem_singleton]
      exact devRef_ne_of_ne fun e => by subst e; exact lt_irrefl _ h
    refine ⟨fun r h => ?_, .cons ?_ ?_⟩
    · rw [after_cons, hk r (by omega), hkeep r (by omega)]
    · rw [after_cons, hk l.2 (by omega)]
      refine hl _ _ fun x hx => ?_
      rw [hk x (by have := hr x hx; omega), hkeep x (hr x hx)]
    · simpa only [after_cons] using hf

/-- After an ascending line its equations hold, and every reference below it is unchanged. -/
theorem Line.after_eqn {p : Prog (TpuEff nD τ sig Val Λ .tc) PUnit} (a : Line p) (n : Nat) (h : ascending n a.log = true)
    (V : Valuation τ sig Val) :
    (∀ r : Ref sig .tc, rank r < n → after a.ops V (Proc.devRef .tc r) = V (Proc.devRef .tc r)) ∧ a.eqn (after a.ops V) :=
  ⟨(after_facts n a.ops a.log a.good h V).1, a.sound _ (after_facts n a.ops a.log a.good h V).2⟩

theorem good_forall : ∀ (ops : List (HloOp τ sig Val)) (log : List (List (Ref sig .tc) × Ref sig .tc)),
    List.Forall₂ (fun op (l : List (Ref sig .tc) × Ref sig .tc) =>
      op.writes = {Proc.devRef .tc l.2} ∧ op.fresh = ∅ ∧ op.bufs ⊆ tcRefs τ sig ∧
        ∀ F G : Valuation τ sig Val, (∀ x ∈ l.1, F (Proc.devRef .tc x) = G (Proc.devRef .tc x)) →
          op.result F (Proc.devRef .tc l.2) = op.result G (Proc.devRef .tc l.2)) ops log →
    ∀ op ∈ ops, op.fresh = ∅ ∧ op.bufs ⊆ tcRefs τ sig
  | [], _, _, _, h => absurd h List.not_mem_nil
  | o :: ops, _ :: log, .cons ⟨_, hf, hb, _⟩ hrest, op, h => by
    rcases List.mem_cons.mp h with rfl | h
    · exact ⟨hf, hb⟩
    · exact good_forall ops log hrest op h

/-- A program that is an ascending line above its arguments runs; at the end its equations hold, and every reference
    below the line is what it was at the launch. -/
theorem Line.run (defs : Defs nD τ sig Val Λ) (main : Dev nD → Prog (TpuEff nD τ sig Val Λ .tc) PUnit)
    {p : Prog (TpuEff nD τ sig Val Λ .tc) PUnit} (a : Line p) (hmain : ∀ d, main d = p)
    (n : Nat) (h : ascending n a.log = true)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      a.eqn W ∧ (∀ b : Ref sig .tc, r.2.mem ((d.tc : Thread nD τ).loc b) = at' b W) ∧
      (∀ b : Ref sig .tc, rank b < n → at' b W = m ((d.tc : Thread nD τ).loc b)) := by
  refine θ_run_mono (run_hlo defs main (ops := a.ops) (fun d => (hmain d).trans a.prog) hR hC
    (List.forall_iff_forall_mem.mpr fun op ho => (good_forall _ _ a.good op ho).2)
    (fun op ho => (good_forall _ _ a.good op ho).1) m ρ) fun r hr d => ?_
  obtain ⟨hk, he⟩ := a.after_eqn n h (launchContents m d)
  exact ⟨_, he, fun b => hr d b, fun b hb => hk b hb⟩

end Cert.Line

end
-- ==== Proof.RefLines.lean ====
/-
  The reference's module-local functions and its @main as lines of operations (`Line`): for each, the operations of its body in
  order with their equations, over the function's arguments and one call's buffers.
-/
module

public import proofs.«01_k».proof.ReferenceIdeal
public import proofs.«01_k».proof.Proof.Line

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable {F : FTy → Type} [FloatOps F] [Facts]

/-- The operations of `@fn_threefry2x32`. -/
def lineThreefry4 (a0 a1 : TRef sig ⟨S_, .i32⟩) (a2 a3 : TRef sig ⟨S4, .i32⟩) (φ : fn_threefry2x32.Bufs) :
    Line (fn_threefry2x32.body (F := F) a0 a1 a2 a3 φ) := by
  apply Line.as
  · delta fn_threefry2x32.body fn_threefry2x32.body_part0 fn_threefry2x32.body_part1
      fn_threefry2x32.body_part2 fn_threefry2x32.body_part3
    exact rfl
  repeat' with_reducible first
    | exact Line.nil
    | refine Line.call ?_ ?_
    | exact Line.one (Node.tbinary ..)
    | exact Line.one (Node.tunary ..)
    | exact Line.one (Node.tnullary ..)

/-- The operations of `@fn_threefry2x32_6`. -/
def lineThreefry2 (a0 a1 : TRef sig ⟨S_, .i32⟩) (a2 a3 : TRef sig ⟨S2, .i32⟩) (φ : fn_threefry2x32_6.Bufs) :
    Line (fn_threefry2x32_6.body (F := F) a0 a1 a2 a3 φ) := by
  apply Line.as
  · delta fn_threefry2x32_6.body fn_threefry2x32_6.body_part0 fn_threefry2x32_6.body_part1
      fn_threefry2x32_6.body_part2 fn_threefry2x32_6.body_part3
    exact rfl
  repeat' with_reducible first
    | exact Line.nil
    | refine Line.call ?_ ?_
    | exact Line.one (Node.tbinary ..)
    | exact Line.one (Node.tunary ..)
    | exact Line.one (Node.tnullary ..)

/-- The operations of `@fn_threefry2x32_0`. -/
def lineThreefry (a0 a1 : TRef sig ⟨S_, .i32⟩) (a2 a3 : TRef sig ⟨S128x2048, .i32⟩) (φ : fn_threefry2x32_0.Bufs) :
    Line (fn_threefry2x32_0.body (F := F) a0 a1 a2 a3 φ) := by
  apply Line.as
  · delta fn_threefry2x32_0.body fn_threefry2x32_0.body_part0 fn_threefry2x32_0.body_part1
      fn_threefry2x32_0.body_part2 fn_threefry2x32_0.body_part3
    exact rfl
  repeat' with_reducible first
    | exact Line.nil
    | refine Line.call ?_ ?_
    | exact Line.one (Node.tbinary ..)
    | exact Line.one (Node.tunary ..)
    | exact Line.one (Node.tnullary ..)

/-- The operations of `@fn_threefry_split`. -/
def lineSplit4 (a0 : TRef sig ⟨S2, .i32⟩) (φ : fn_threefry_split.Bufs) :
    Line (fn_threefry_split.body (F := F) a0 φ) := by
  apply Line.as
  · delta fn_threefry_split.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineThreefry4 ..

/-- The operations of `@fn_threefry_split_5`. -/
def lineSplit2 (a0 : TRef sig ⟨S2, .i32⟩) (φ : fn_threefry_split_5.Bufs) :
    Line (fn_threefry_split_5.body (F := F) a0 φ) := by
  apply Line.as
  · delta fn_threefry_split_5.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineThreefry2 ..

/-- The operations of `@fn_where`. -/
def lineWhere (a0 : TRef sig ⟨S128x2048, .i1⟩) (a1 : TRef sig ⟨S_, .f32⟩) (a2 : TRef sig ⟨S_, .f32⟩) (φ : fn_where.Bufs) :
    Line (fn_where.body (F := F) a0 a1 a2 φ) := by
  apply Line.as
  · delta fn_where.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of `@fn_uniform`. -/
def lineUniform (a0 : TRef sig ⟨S2, .i32⟩) (a1 : TRef sig ⟨S_, .f32⟩) (a2 : TRef sig ⟨S_, .f32⟩) (φ : fn_uniform.Bufs) :
    Line (fn_uniform.body (F := F) a0 a1 a2 φ) := by
  apply Line.as
  · delta fn_uniform.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineThreefry ..

/-- The operations of `@fn_bernoulli`. -/
def lineBernoulli (a0 : TRef sig ⟨S2, .i32⟩) (a1 : TRef sig ⟨S128x2048, .f32⟩) (φ : fn_bernoulli.Bufs) :
    Line (fn_bernoulli.body (F := F) a0 a1 φ) := by
  apply Line.as
  · delta fn_bernoulli.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineUniform ..

/-- The operations of `@fn_where_1`. -/
def lineWhere1 (a0 : TRef sig ⟨S128x2048, .i1⟩) (a1 : TRef sig ⟨S128x2048, .i32⟩) (a2 : TRef sig ⟨S_, .i32⟩) (φ : fn_where_1.Bufs) :
    Line (fn_where_1.body (F := F) a0 a1 a2 φ) := by
  apply Line.as
  · delta fn_where_1.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of `@fn_bernoulli_2`. -/
def lineBernoulli2 (a0 : TRef sig ⟨S2, .i32⟩) (a1 : TRef sig ⟨S_, .f32⟩) (φ : fn_bernoulli_2.Bufs) :
    Line (fn_bernoulli_2.body (F := F) a0 a1 φ) := by
  apply Line.as
  · delta fn_bernoulli_2.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineUniform ..

/-- The operations of `@fn_where_3`. -/
def lineWhere3 (a0 : TRef sig ⟨S128x2048, .i1⟩) (a1 : TRef sig ⟨S_, .i32⟩) (a2 : TRef sig ⟨S128x2048, .i32⟩) (φ : fn_where_3.Bufs) :
    Line (fn_where_3.body (F := F) a0 a1 a2 φ) := by
  apply Line.as
  · delta fn_where_3.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of `@fn_clip`. -/
def lineClip (a0 : TRef sig ⟨S_, .i32⟩) (a1 : TRef sig ⟨S_, .i32⟩) (a2 : TRef sig ⟨S_, .i32⟩) (φ : fn_clip.Bufs) :
    Line (fn_clip.body (F := F) a0 a1 a2 φ) := by
  apply Line.as
  · delta fn_clip.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of `@fn_clip_4`. -/
def lineClip4 (a0 : TRef sig ⟨S_, .i32⟩) (a1 : TRef sig ⟨S_, .i32⟩) (a2 : TRef sig ⟨S_, .i32⟩) (φ : fn_clip_4.Bufs) :
    Line (fn_clip_4.body (F := F) a0 a1 a2 φ) := by
  apply Line.as
  · delta fn_clip_4.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of `@fn_randint`. -/
def lineRandint (a0 : TRef sig ⟨S2, .i32⟩) (a1 : TRef sig ⟨S_, .i32⟩) (a2 : TRef sig ⟨S_, .i32⟩) (φ : fn_randint.Bufs) :
    Line (fn_randint.body (F := F) a0 a1 a2 φ) := by
  apply Line.as
  · delta fn_randint.body fn_randint.body_part0 fn_randint.body_part1
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)
    | exact lineClip4 ..
    | exact lineClip ..
    | exact lineSplit2 ..
    | exact lineThreefry ..

/-- The operations of `@fn_where_7`. -/
def lineWhere7 (a0 : TRef sig ⟨S128x2048, .i1⟩) (a1 : TRef sig ⟨S128x2048, .i32⟩) (a2 : TRef sig ⟨S128x2048, .i32⟩) (φ : fn_where_7.Bufs) :
    Line (fn_where_7.body (F := F) a0 a1 a2 φ) := by
  apply Line.as
  · delta fn_where_7.body
    exact rfl
  repeat' with_reducible first
    | exact Line.nil
    | refine Line.call ?_ ?_
    | exact Line.one (Node.tbinary ..)
    | exact Line.one (Node.tunary ..)
    | exact Line.one (Node.tnullary ..)
    | exact Line.one (Node.tternary ..)
    | exact Line.one (Node.treshape ..)

/-- The operations of @main. -/
def lineMain (d : Dev nD) : Line (main (F := F) d) := by
  apply Line.as
  · delta main
    exact rfl
  repeat' with_reducible first
    | exact Line.nil
    | refine Line.call ?_ ?_
    | exact Line.one (Node.binary ..)
    | exact Line.one (Node.unary ..)
    | exact Line.one (Node.nullary ..)
    | exact Line.one (Node.reshape ..)
    | exact lineSplit4 ..
    | exact lineWhere ..
    | exact lineBernoulli ..
    | exact lineWhere1 ..
    | exact lineBernoulli2 ..
    | exact lineWhere3 ..
    | exact lineRandint ..
    | exact lineWhere7 ..

end Cert.ReferenceIdeal.Value

end
-- ==== Proof.RefRun.lean ====
/-
  The reference's run: it terminates, leaves its arguments and every counter as they were, and ends in a state in which
  the equations of `lineMain` hold.
-/
module

public import proofs.«01_k».proof.Proof.RefLines
public import Idealize.ShloMosaic.Lib.Quiescent
public import Idealize.ShloMosaic.Lib.Tactic

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable {F : FTy → Type} [FloatOps F] [Facts]

/-- Every operation of @main writes a buffer above the two arguments and above those it reads, each above the last. -/
theorem main_ascending (d : Dev nD) : ascending 2 (lineMain (F := F) d).log = true := by
  sl_kernel_rfl

theorem run (m : (ℓ : Loc nD τ sig) → Buf (Elt F) ℓ) (ρ : Dev nD → PrngReg) :
    θ_run (defs (F := F)) (onTc (τ := τ) (main (F := F))) ⟨m, fun _ => 0, ρ⟩ fun r => ∀ d : Dev nD, ∃ W : Valuation τ sig (Elt F),
      (lineMain (F := F) d).eqn W ∧ (∀ b : Ref sig .tc, r.2.mem ((d.tc : Thread nD τ).loc b) = at' b W) ∧
      (∀ b : Ref sig .tc, rank b < 2 → at' b W = m ((d.tc : Thread nD τ).loc b)) := by
  have h := Line.run (defs (F := F)) (main (F := F)) (lineMain 0) (fun d => rfl) 2 (main_ascending 0) (by decide +kernel) (by decide +kernel) m ρ
  exact h

theorem quiescent (m : (ℓ : Loc nD τ sig) → Buf (Elt F) ℓ) (ρ : Dev nD → PrngReg) :
    θ_run (defs (F := F)) (onTc (τ := τ) (main (F := F))) ⟨m, fun _ => 0, ρ⟩ fun r => (∀ d : Dev nD,
      r.2.mem ((d.tc : Thread nD τ).loc main_arg0) = m ((d.tc : Thread nD τ).loc main_arg0) ∧
      r.2.mem ((d.tc : Thread nD τ).loc main_arg1) = m ((d.tc : Thread nD τ).loc main_arg1)) ∧ r.2.sem = fun _ => 0 := by
  refine θ_run_mono (run m ρ) fun r hr => ⟨fun d => ?_, sem_eq_zero_of_no_sems (by decide) _⟩
  obtain ⟨W, -, hb, hk⟩ := hr d
  exact ⟨(hb main_arg0).trans (hk main_arg0 (by decide)), (hb main_arg1).trans (hk main_arg1 (by decide))⟩

end Cert.ReferenceIdeal.Value

end
-- ==== Proof.RefThreefry.lean ====
/-
  The reference's block function at its three shapes: each entry of the two results is `Threefry.block` of the key words
  and of the counters' entries.
-/
module

public import proofs.«01_k».proof.Proof.RefLines
public import proofs.«01_k».proof.Proof.Threefry

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable {F : FTy → Type} [FloatOps F] [Facts]

/-- The one index of a scalar. -/
def sc : S_.Idx := fun a => a.elim0

/-- A scalar broadcast to any shape is the scalar everywhere. -/
theorem bcast_sc {α : Type} (t : Shape) (d : Fin S_.rank → Fin t.rank) (h) (x : S_.Idx → α) (i : t.Idx) :
    broadcastInDim t d h x i = x sc := congrArg x (funext fun a => a.elim0)

theorem shl_lit (u : ArithUnit) (x y : BitVec 32) (h : y.toNat < 32) : IntOp.shli u x y = x <<< y := if_pos h
theorem shr_lit (u : ArithUnit) (x y : BitVec 32) (h : y.toNat < 32) : IntOp.shrui u x y = x >>> y := if_pos h

theorem threefry (a0 a1 : TRef sig ⟨S_, .i32⟩) (a2 a3 : TRef sig ⟨S128x2048, .i32⟩) (φ : fn_threefry2x32_0.Bufs)
    (W : Valuation τ sig (Elt F)) (h : (lineThreefry a0 a1 a2 a3 φ).eqn W) (i : S128x2048.Idx) :
    (get φ.v171 W i, get φ.v175 W i) = Threefry.block (get a0 W sc) (get a1 W sc) (get a2 W i) (get a3 W i) := by
  simp only [lineThreefry, eqn_as, eqn_call, eqn_one, eqn_nil, eqn_tbinary, eqn_tunary, eqn_tnullary] at h
  simp only [h, addi, xori, ori, Host.shli, Host.shrui, bcast_sc, constantI, IntOp.addi, IntOp.xori, IntOp.ori]
  simp (discharger := decide) only [shl_lit, shr_lit]
  rfl

theorem threefry4 (a0 a1 : TRef sig ⟨S_, .i32⟩) (a2 a3 : TRef sig ⟨S4, .i32⟩) (φ : fn_threefry2x32.Bufs)
    (W : Valuation τ sig (Elt F)) (h : (lineThreefry4 a0 a1 a2 a3 φ).eqn W) (i : S4.Idx) :
    (get φ.v171 W i, get φ.v175 W i) = Threefry.block (get a0 W sc) (get a1 W sc) (get a2 W i) (get a3 W i) := by
  simp only [lineThreefry4, eqn_as, eqn_call, eqn_one, eqn_nil, eqn_tbinary, eqn_tunary, eqn_tnullary] at h
  simp only [h, addi, xori, ori, Host.shli, Host.shrui, bcast_sc, constantI, IntOp.addi, IntOp.xori, IntOp.ori]
  simp (discharger := decide) only [shl_lit, shr_lit]
  rfl

theorem threefry2 (a0 a1 : TRef sig ⟨S_, .i32⟩) (a2 a3 : TRef sig ⟨S2, .i32⟩) (φ : fn_threefry2x32_6.Bufs)
    (W : Valuation τ sig (Elt F)) (h : (lineThreefry2 a0 a1 a2 a3 φ).eqn W) (i : S2.Idx) :
    (get φ.v171 W i, get φ.v175 W i) = Threefry.block (get a0 W sc) (get a1 W sc) (get a2 W i) (get a3 W i) := by
  simp only [lineThreefry2, eqn_as, eqn_call, eqn_one, eqn_nil, eqn_tbinary, eqn_tunary, eqn_tnullary] at h
  simp only [h, addi, xori, ori, Host.shli, Host.shrui, bcast_sc, constantI, IntOp.addi, IntOp.xori, IntOp.ori]
  simp (discharger := decide) only [shl_lit, shr_lit]
  rfl

end Cert.ReferenceIdeal.Value

end
-- ==== Proof.RefKeys.lean ====
/-
  The reference's keys and counters: a key's two words, the counter of an entry, and what a split of a key holds.
-/
module

public import proofs.«01_k».proof.Proof.RefThreefry
public import Idealize.ShloMosaic.Lib.Pointwise.SelectCore
public import Idealize.ShloMosaic.Lib.Pointwise.Reshape
public import Idealize.ShloMosaic.Lib.Tactic

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable {F : FTy → Type} [FloatOps F] [Facts]

/-- Word `q` of a pair, cut out and read as a scalar. -/
theorem pair_word {α : Type} (q : Fin 2) (h1 : S2.Slices ![q.val] S1) (h2 : S1.ShapeCasts S_) (x : S2.Idx → α) (j : S_.Idx) :
    shapeCast S_ (extractStridedSlice S1 ![q.val] x h1) h2 j = x (ix1 q) := by
  refine congrArg x (funext fun a => Fin.ext ?_)
  match a with
  | ⟨0, _⟩ =>
    have := (Shape.reshapeEquiv h2 j 0).isLt
    simp only [Nat.lt_one_iff, Matrix.cons_val_zero, Shape.size] at this ⊢
    simp
    omega

/-- Row `q` of a table of pairs, cut out and read as a pair. -/
theorem row_word {α : Type} {n : Nat} (q : Fin n) (p : Fin 2) (h1 : (⟨2, ![n, 2]⟩ : Shape).Slices ![q.val, 0] S1x2)
    (h2 : S1x2.ShapeCasts S2) (x : (⟨2, ![n, 2]⟩ : Shape).Idx → α) :
    shapeCast S2 (extractStridedSlice S1x2 ![q.val, 0] x h1) h2 (ix1 p) = x (ix2 q p) := by
  have e : Shape.reshapeEquiv h2 (ix1 p) = (ix2 0 p : S1x2.Idx) := by
    revert p; decide +revert
  refine congrArg x (funext fun a => Fin.ext ?_)
  rw [e]
  match a with
  | ⟨0, _⟩ => simp
  | ⟨1, _⟩ => simp

/-- Two columns side by side. -/
theorem columns {α : Type} {n : Nat} (a b : (⟨1, ![n]⟩ : Shape).Idx → α)
    (h : Shape.Concatenates [(⟨2, ![n, 1]⟩ : Shape), ⟨2, ![n, 1]⟩] ⟨2, ![n, 2]⟩ 1) (ha) (q : Fin n) :
    concatenate (⟨2, ![n, 2]⟩ : Shape) 1 [⟨⟨2, ![n, 1]⟩, broadcastInDim ⟨2, ![n, 1]⟩ ![0] ha a⟩,
      ⟨⟨2, ![n, 1]⟩, broadcastInDim ⟨2, ![n, 1]⟩ ![0] ha b⟩] h (ix2 q 0) = a (ix1 q) ∧
    concatenate (⟨2, ![n, 2]⟩ : Shape) 1 [⟨⟨2, ![n, 1]⟩, broadcastInDim ⟨2, ![n, 1]⟩ ![0] ha a⟩,
      ⟨⟨2, ![n, 1]⟩, broadcastInDim ⟨2, ![n, 1]⟩ ![0] ha b⟩] h (ix2 q 1) = b (ix1 q) := by
  simp only [concatenate_pair_apply, ix2_1, Shape.Idx.norm_def]
  constructor
  · exact congrArg a (funext fun c => Fin.ext (by
      match c with
      | ⟨0, _⟩ =>
        dsimp only
        split
        · rename_i h1; have h1 : n = 1 := h1; have := q.isLt
          show 0 = q.val
          omega
        · rfl))
  · exact congrArg b (funext fun c => Fin.ext (by
      match c with
      | ⟨0, _⟩ =>
        dsimp only
        split
        · rename_i h1; have h1 : n = 1 := h1; have := q.isLt
          show 0 = q.val
          omega
        · rfl))

/-- The low half of a small 64-bit number. -/
theorem low_half (n : Nat) (h : n < 2 ^ 32) : (BitVec.ofNat 64 n).setWidth 32 = BitVec.ofNat 32 n := by
  apply BitVec.eq_of_toNat_eq
  simp only [BitVec.toNat_setWidth, BitVec.toNat_ofNat]
  omega

/-- The high half of a small 64-bit number. -/
theorem high_half (n : Nat) (h : n < 2 ^ 32) :
    (IntOp.shrui .host (BitVec.ofNat 64 n) 32#64).setWidth 32 = (0#32 : BitVec 32) := by
  rw [IntOp.shrui, if_pos (by decide)]
  apply BitVec.eq_of_toNat_eq
  have e : (BitVec.ofNat 64 n).toNat = n := by rw [BitVec.toNat_ofNat]; omega
  have e' : (32#64 : BitVec 64).toNat = 32 := rfl
  rw [BitVec.toNat_setWidth, BitVec.ushiftRight_eq', BitVec.toNat_ushiftRight, e, e', Nat.shiftRight_eq_div_pow,
    Nat.div_eq_of_lt h]
  rfl

/-- The number of an entry of the array, row by row. -/
def flat (i : S128x2048.Idx) : Nat := 2048 * (i 0).val + (i 1).val

theorem flat_lt (i : S128x2048.Idx) : flat i < 2 ^ 32 := by
  have h0 : (i 0).val < 128 := (i 0).isLt
  have h1 : (i 1).val < 2048 := (i 1).isLt
  unfold flat; omega

/-- The counter of an entry, as the reference computes it over 64 bits. -/
theorem count (i : S128x2048.Idx) :
    2048#64 * iotaInDim S128x2048 64 0 i + 1#64 * iotaInDim S128x2048 64 1 i = BitVec.ofNat 64 (flat i) := by
  apply BitVec.eq_of_toNat_eq
  simp [iotaInDim, flat, BitVec.toNat_add, BitVec.toNat_mul]

/-- The counters of a split: the low words count up, -/
theorem low_count {n : Nat} (hn : n ≤ 2 ^ 32) (d : Fin S_.rank → Fin (⟨1, ![n]⟩ : Shape).rank) (h) (hw) (q : Fin n) :
    trunci (s := ⟨1, ![n]⟩) 32 (muli (broadcastInDim ⟨1, ![n]⟩ d h (constantI S_ 64 1#64)) (iotaInDim ⟨1, ![n]⟩ 64 0)) hw (ix1 q) =
      BitVec.ofNat 32 q.val := by
  have e : 1#64 * BitVec.ofNat 64 q.val = BitVec.ofNat 64 q.val := BitVec.one_mul _
  simp only [trunci, muli, bcast_sc, constantI, iotaInDim, IntOp.muli, ix1_0, e]
  exact low_half _ (by omega)

/-- and the high words are zero. -/
theorem high_count {n : Nat} (hn : n ≤ 2 ^ 32) (d d' : Fin S_.rank → Fin (⟨1, ![n]⟩ : Shape).rank) (h) (h') (hw) (q : Fin n) :
    trunci (s := ⟨1, ![n]⟩) 32 (Host.shrui (muli (broadcastInDim ⟨1, ![n]⟩ d h (constantI S_ 64 1#64)) (iotaInDim ⟨1, ![n]⟩ 64 0))
      (broadcastInDim ⟨1, ![n]⟩ d' h' (constantI S_ 64 32#64))) hw (ix1 q) = 0#32 := by
  have e : 1#64 * BitVec.ofNat 64 q.val = BitVec.ofNat 64 q.val := BitVec.one_mul _
  simp only [trunci, Host.shrui, muli, bcast_sc, constantI, iotaInDim, IntOp.muli, ix1_0, e]
  exact high_half _ (by omega)

/-- A split into four keys: key `q` is the block at counter `(0, q)`. -/
theorem split4 (a0 : TRef sig ⟨S2, .i32⟩) (φ : fn_threefry_split.Bufs) (W : Valuation τ sig (Elt F))
    (h : (lineSplit4 a0 φ).eqn W) (q : Fin 4) :
    (get φ.v14 W (ix2 q 0), get φ.v14 W (ix2 q 1)) =
      Threefry.block (get a0 W (ix1 0)) (get a0 W (ix1 1)) 0#32 (BitVec.ofNat 32 q.val) := by
  simp only [lineSplit4, eqn_as, eqn_call, eqn_one, eqn_nil, eqn_tbinary, eqn_tunary, eqn_tnullary, eqn_treshape] at h
  obtain ⟨h0, h1, h2, h3, h4, hc, h5, h6, hc0, h7, h8, h9, h10, hcall, h12, h13, h14, -⟩ := h
  have e := threefry4 _ _ _ _ _ W hcall (ix1 q)
  have e9 : get φ.v9 W (ix1 q) = BitVec.ofNat 32 q.val := by
    rw [h9, h6, h5, hc, h4]; exact low_count (by decide) _ _ _ q
  have e10 : get φ.v10 W (ix1 q) = 0#32 := by
    rw [h10, h8, h7, hc0, h6, h5, hc, h4]; exact high_count (by decide) _ _ _ _ _ q
  have e1 : get φ.v1 W sc = get a0 W (ix1 0) := by
    rw [h1, h0]; exact pair_word 0 _ _ _ _
  have e3 : get φ.v3 W sc = get a0 W (ix1 1) := by
    rw [h3, h2]; exact pair_word 1 _ _ _ _
  rw [h14, h12, h13, (columns _ _ _ _ q).1, (columns _ _ _ _ q).2, e, e1, e3, e9, e10]

/-- A split into two keys. -/
theorem split2 (a0 : TRef sig ⟨S2, .i32⟩) (φ : fn_threefry_split_5.Bufs) (W : Valuation τ sig (Elt F))
    (h : (lineSplit2 a0 φ).eqn W) (q : Fin 2) :
    (get φ.v14 W (ix2 q 0), get φ.v14 W (ix2 q 1)) =
      Threefry.block (get a0 W (ix1 0)) (get a0 W (ix1 1)) 0#32 (BitVec.ofNat 32 q.val) := by
  simp only [lineSplit2, eqn_as, eqn_call, eqn_one, eqn_nil, eqn_tbinary, eqn_tunary, eqn_tnullary, eqn_treshape] at h
  obtain ⟨h0, h1, h2, h3, h4, hc, h5, h6, hc0, h7, h8, h9, h10, hcall, h12, h13, h14, -⟩ := h
  have e := threefry2 _ _ _ _ _ W hcall (ix1 q)
  have e9 : get φ.v9 W (ix1 q) = BitVec.ofNat 32 q.val := by
    rw [h9, h6, h5, hc, h4]; exact low_count (by decide) _ _ _ q
  have e10 : get φ.v10 W (ix1 q) = 0#32 := by
    rw [h10, h8, h7, hc0, h6, h5, hc, h4]; exact high_count (by decide) _ _ _ _ _ q
  have e1 : get φ.v1 W sc = get a0 W (ix1 0) := by
    rw [h1, h0]; exact pair_word 0 _ _ _ _
  have e3 : get φ.v3 W sc = get a0 W (ix1 1) := by
    rw [h3, h2]; exact pair_word 1 _ _ _ _
  rw [h14, h12, h13, (columns _ _ _ _ q).1, (columns _ _ _ _ q).2, e, e1, e3, e9, e10]

/-- The counter of an entry: its low word, -/
theorem count_low (d d' : Fin S_.rank → Fin S128x2048.rank) (h) (h') (hw) (i : S128x2048.Idx) :
    trunci 32 (addi (muli (broadcastInDim S128x2048 d h (constantI S_ 64 2048#64)) (iotaInDim S128x2048 64 0))
      (muli (broadcastInDim S128x2048 d' h' (constantI S_ 64 1#64)) (iotaInDim S128x2048 64 1))) hw i =
      BitVec.ofNat 32 (flat i) := by
  simp only [trunci, addi, muli, bcast_sc, constantI, IntOp.muli, IntOp.addi, count]
  exact low_half _ (flat_lt i)

/-- and its high word. -/
theorem count_high (d d' d'' : Fin S_.rank → Fin S128x2048.rank) (h) (h') (h'') (hw) (i : S128x2048.Idx) :
    trunci 32 (Host.shrui (addi (muli (broadcastInDim S128x2048 d h (constantI S_ 64 2048#64)) (iotaInDim S128x2048 64 0))
      (muli (broadcastInDim S128x2048 d' h' (constantI S_ 64 1#64)) (iotaInDim S128x2048 64 1)))
      (broadcastInDim S128x2048 d'' h'' (constantI S_ 64 32#64))) hw i = 0#32 := by
  simp only [trunci, Host.shrui, addi, muli, bcast_sc, constantI, IntOp.muli, IntOp.addi, count]
  exact high_half _ (flat_lt i)

/-- The random word of the key `k` at an entry. -/
def wordAt (k : S2.Idx → BitVec 32) (i : S128x2048.Idx) : BitVec 32 :=
  Threefry.word (k (ix1 0)) (k (ix1 1)) 0#32 (BitVec.ofNat 32 (flat i))

/-- The two words of the block function, xored, at a pair key and the entries' counters. -/
theorem draw (k : S2.Idx → BitVec 32) (a0 a1 : TRef sig ⟨S_, .i32⟩) (a2 a3 : TRef sig ⟨S128x2048, .i32⟩) (φ : fn_threefry2x32_0.Bufs)
    (W : Valuation τ sig (Elt F)) (h : (lineThreefry a0 a1 a2 a3 φ).eqn W) (i : S128x2048.Idx)
    (h0 : get a0 W sc = k (ix1 0)) (h1 : get a1 W sc = k (ix1 1)) (h2 : get a2 W i = 0#32)
    (h3 : get a3 W i = BitVec.ofNat 32 (flat i)) :
    xori (get φ.v171 W) (get φ.v175 W) i = wordAt k i := by
  have e := threefry _ _ _ _ _ W h i
  rw [h0, h1, h2, h3] at e
  rw [xori, wordAt, Threefry.word, ← e]
  rfl

end Cert.ReferenceIdeal.Value

end
-- ==== Proof.Bernoulli.lean ====
/-
  The comparison of a uniform draw with a probability, as a bound on the random word: the draw made of a word `w` is
  `(w / 512) / 2 ^ 23`, so it is below `p` exactly if `w` is below `512 * ⌈p * 2 ^ 23⌉`.
-/
module

public import Idealize.ShloMosaic.Lib.Pointwise
public import proofs.«01_k».proof.Proof.Masking

@[expose] public section

noncomputable section

namespace Cert.Masking

open Idealize.ShloMosaic

/-- The number in `[lo, hi)` made of a random word: the word's top 23 bits as the fraction of a number in `[1, 2)`. -/
def unif (lo hi : EReal) (w : BitVec 32) : EReal :=
  max lo ((Ideal.ofBits .f32 ((w >>> 9) ||| 1065353216#32) - 1) * (hi - lo) + lo)

/-- The word with exponent 127 put in, as a number. -/
theorem toNat_mantissa (w : BitVec 32) : ((w >>> 9) ||| 1065353216#32).toNat = 1065353216 + w.toNat / 512 := by
  have hw := w.isLt
  rw [BitVec.toNat_or, BitVec.toNat_ushiftRight, Nat.shiftRight_eq_div_pow, Nat.or_comm]
  have h := Nat.two_pow_add_eq_or_of_lt (i := 23) (b := w.toNat / 2 ^ 9) (by omega) 127
  exact h.symm

/-- What a positive normal pattern denotes. -/
theorem ofBits_normal (b : BitVec 32) (ex fr : Nat) (hs : b.extractLsb' 31 1 = 0#1) (he : (b.extractLsb' 23 8).toNat = ex)
    (hf : (b.extractLsb' 0 23).toNat = fr) (h0 : ex ≠ 0) (h1 : ex ≠ 255) :
    Ideal.ofBits .f32 b = (((8388608 + (fr : ℝ)) * (2 : ℝ) ^ ((ex : Int) - 150) : ℝ) : EReal) := by
  show Ideal.ieee 8 23 b = _
  unfold Ideal.ieee
  simp only [hs, he, hf]
  rw [if_neg (by norm_num; exact h1), if_neg h0]
  refine congrArg Real.toEReal ?_
  have e : (ex : Int) - (2 ^ (8 - 1) - 1) - ((23 : Nat) : Int) = (ex : Int) - 150 := by norm_num; ring
  rw [e]
  norm_num

theorem ofBits_mantissa (w : BitVec 32) :
    Ideal.ofBits .f32 ((w >>> 9) ||| 1065353216#32) = ((1 + ((w.toNat / 512 : Nat) : ℝ) / 8388608 : ℝ) : EReal) := by
  have hw := w.isLt
  have h := toNat_mantissa w
  generalize (w >>> 9) ||| 1065353216#32 = b at h
  have hs : b.extractLsb' 31 1 = 0#1 := by
    apply BitVec.eq_of_toNat_eq
    rw [BitVec.extractLsb'_toNat, h, Nat.shiftRight_eq_div_pow]
    simp only [BitVec.toNat_ofNat]
    omega
  have he : (b.extractLsb' 23 8).toNat = 127 := by
    rw [BitVec.extractLsb'_toNat, h, Nat.shiftRight_eq_div_pow]
    omega
  have hf : (b.extractLsb' 0 23).toNat = w.toNat / 512 := by
    rw [BitVec.extractLsb'_toNat, h, Nat.shiftRight_eq_div_pow]
    omega
  rw [ofBits_normal b _ _ hs he hf (by decide) (by decide)]
  refine congrArg Real.toEReal ?_
  norm_num
  ring

theorem unif_eq (w : BitVec 32) : unif 0 1 w = ((((w.toNat / 512 : Nat) : ℝ) / 8388608 : ℝ) : EReal) := by
  have h0 : (0 : ℝ) ≤ ((w.toNat / 512 : Nat) : ℝ) / 8388608 := by positivity
  rw [unif, ofBits_mantissa, sub_zero, mul_one, add_zero]
  rw [← EReal.coe_one, ← EReal.coe_sub, add_sub_cancel_left]
  exact max_eq_right (by exact_mod_cast h0)

/-- A draw is below the number `p` exactly if its word is below the bound. -/
theorem unif_lt (w t : BitVec 32) (p : ℝ) (T : Nat) (ht : t.toNat = T * 512) (h1 : p * 8388608 ≤ T) (h2 : (T : ℝ) - 1 < p * 8388608) :
    BitVec.ofBool (decide (unif 0 1 w < (p : EReal))) = below t w := by
  rw [below, unif_eq]
  congr 1
  rw [BitVec.ult, ht, decide_eq_decide, EReal.coe_lt_coe_iff, div_lt_iff₀ (by norm_num), ← Nat.div_lt_iff_lt_mul (by norm_num)]
  constructor
  · intro h
    have h3 : ((w.toNat / 512 : Nat) : ℝ) < (T : ℝ) := h.trans_le h1
    exact_mod_cast h3
  · intro h
    have h3 : ((w.toNat / 512 : Nat) : ℝ) + 1 ≤ (T : ℝ) := by exact_mod_cast h
    linarith

theorem below15 (w : BitVec 32) : BitVec.ofBool (decide (unif 0 1 w < Ideal.ofBits .f32 1041865114#32)) = below 644245504#32 w := by
  have e : Ideal.ofBits .f32 1041865114#32 = ((10066330 / 67108864 : ℝ) : EReal) := by
    rw [ofBits_normal _ 124 1677722 (by decide) (by decide) (by decide) (by decide) (by decide)]
    exact congrArg Real.toEReal (by norm_num)
  rw [e]
  exact unif_lt w _ _ 1258292 (by decide) (by norm_num) (by norm_num)

theorem below80 (w : BitVec 32) : BitVec.ofBool (decide (unif 0 1 w < Ideal.ofBits .f32 1061997773#32)) = below 3435974144#32 w := by
  have e : Ideal.ofBits .f32 1061997773#32 = ((13421773 / 16777216 : ℝ) : EReal) := by
    rw [ofBits_normal _ 126 5033165 (by decide) (by decide) (by decide) (by decide) (by decide)]
    exact congrArg Real.toEReal (by norm_num)
  rw [e]
  exact unif_lt w _ _ 6710887 (by decide) (by norm_num) (by norm_num)

theorem below50 (w : BitVec 32) : BitVec.ofBool (decide (unif 0 1 w < Ideal.ofBits .f32 1056964608#32)) = below 2147483648#32 w := by
  have e : Ideal.ofBits .f32 1056964608#32 = ((1 / 2 : ℝ) : EReal) := by
    rw [ofBits_normal _ 126 0 (by decide) (by decide) (by decide) (by decide) (by decide)]
    exact congrArg Real.toEReal (by norm_num)
  rw [e]
  exact unif_lt w _ _ 4194304 (by decide) (by norm_num) (by norm_num)

/-- No draw is below zero. -/
theorem below0 (w : BitVec 32) : BitVec.ofBool (decide (unif 0 1 w < 0)) = 0#1 := by
  have h0 : (0 : ℝ) ≤ ((w.toNat / 512 : Nat) : ℝ) / 8388608 := by positivity
  rw [unif_eq, decide_eq_false (not_lt.mpr (by exact_mod_cast h0))]
  rfl

end Cert.Masking

end
-- ==== Proof.RefUniform.lean ====
/-
  The reference's random draws at an entry: the words of a key, the uniform number made of a word, the comparisons with
  a probability, and the random token.
-/
module

public import proofs.«01_k».proof.Proof.RefKeys
public import proofs.«01_k».proof.Proof.Bernoulli

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable [Facts]

/-- The uniform number of an entry. -/
theorem uniform (a0 : TRef sig ⟨S2, .i32⟩) (a1 a2 : TRef sig ⟨S_, .f32⟩) (φ : fn_uniform.Bufs) (W : Valuation τ sig (Elt Ideal))
    (h : (lineUniform a0 a1 a2 φ).eqn W) (i : S128x2048.Idx) :
    get φ.v34 W i = Masking.unif (get a1 W ix0) (get a2 W ix0) (wordAt (get a0 W) i) := by
  simp only [lineUniform, eqn_as, eqn_call, eqn_one, eqn_nil, eqn_tbinary, eqn_tunary, eqn_tnullary, eqn_treshape] at h
  obtain ⟨h0, h1, h2, h3, h4, h5, h6, h7, h8, h9, hc, h10, h11, hc0, h12, h13, h14, hc1, h15, h16, h17, h18, hcall,
    h20, hc2, h21, h22, hc3, h23, h24, h25, hcst, h26, h27, h28, h29, h30, h31, h32, h33, h34, -⟩ := h
  have e20 : get φ.v20 W i = wordAt (get a0 W) i := by
    rw [h20]
    refine draw _ _ _ _ _ _ W hcall i ?_ ?_ ?_ ?_
    · rw [h5, h4]; exact pair_word 0 _ _ _ _
    · rw [h7, h6]; exact pair_word 1 _ _ _ _
    · rw [h18, h16, h14, h11, h10, hc, h8, h13, h12, hc0, h9, h15, hc1]; exact count_high _ _ _ _ _ _ _ i
    · rw [h17, h14, h11, h10, hc, h8, h13, h12, hc0, h9]; exact count_low _ _ _ _ _ i
  rw [h34, h33, h32, h31, h30, h29, h28, h27, h26, hcst, h25, h24, h23, hc3, h22, h21, hc2, h2, h3, h0, h1]
  pointwise []
  rw [e20, shr_lit _ _ _ (by decide)]
  rfl

/-- The comparison of a draw in `[0, 1)` with the probability of its entry. -/
theorem bernoulli (a0 : TRef sig ⟨S2, .i32⟩) (a1 : TRef sig ⟨S128x2048, .f32⟩) (φ : fn_bernoulli.Bufs) (W : Valuation τ sig (Elt Ideal))
    (h : (lineBernoulli a0 a1 φ).eqn W) (i : S128x2048.Idx) :
    get φ.v1 W i = BitVec.ofBool (decide (Masking.unif 0 1 (wordAt (get a0 W) i) < get a1 W i)) := by
  simp only [lineBernoulli, eqn_as, eqn_call, eqn_one, eqn_nil, eqn_tbinary, eqn_tunary, eqn_tnullary] at h
  obtain ⟨hcst, hcst0, hcall, h1, -⟩ := h
  rw [h1]
  pointwise []
  rw [uniform _ _ _ _ W hcall i, hcst, hcst0]
  pointwise []

/-- The same with one probability for all entries. -/
theorem bernoulli2 (a0 : TRef sig ⟨S2, .i32⟩) (a1 : TRef sig ⟨S_, .f32⟩) (φ : fn_bernoulli_2.Bufs) (W : Valuation τ sig (Elt Ideal))
    (h : (lineBernoulli2 a0 a1 φ).eqn W) (i : S128x2048.Idx) :
    get φ.v2 W i = BitVec.ofBool (decide (Masking.unif 0 1 (wordAt (get a0 W) i) < get a1 W ix0)) := by
  simp only [lineBernoulli2, eqn_as, eqn_call, eqn_one, eqn_nil, eqn_tbinary, eqn_tunary, eqn_tnullary] at h
  obtain ⟨hcst, hcst0, hcall, h1, h2, -⟩ := h
  rw [h2, h1]
  pointwise []
  rw [uniform _ _ _ _ W hcall i, hcst, hcst0]
  pointwise []

/-- The random token: the low word's remainder (the high word's multiplier is zero at this range). -/
theorem randint (a0 : TRef sig ⟨S2, .i32⟩) (a1 a2 : TRef sig ⟨S_, .i32⟩) (φ : fn_randint.Bufs) (W : Valuation τ sig (Elt Ideal))
    (h : (lineRandint a0 a1 a2 φ).eqn W) (ha1 : get a1 W = fun _ => 0#32) (ha2 : get a2 W = fun _ => 100000#32)
    (i : S128x2048.Idx) (k : BitVec 32 × BitVec 32)
    (hk : k = Threefry.block (get a0 W (ix1 0)) (get a0 W (ix1 1)) 0#32 1#32) :
    get φ.v73 W i = Threefry.word k.1 k.2 0#32 (BitVec.ofNat 32 (flat i)) % 100000#32 := by
  simp only [lineRandint, lineClip, lineClip4, eqn_as, eqn_call, eqn_one, eqn_nil, eqn_tbinary, eqn_tunary, eqn_tnullary, eqn_treshape,
    eqn_tternary] at h
  obtain ⟨⟨hc, hc0, hc1, ⟨hclip0, hclip1, -⟩, h1, hc2, hc3, ⟨hcl0, hcl1, -⟩, h3, hc4, hc5, ⟨hcm0, hcm1, -⟩, h5, h6, h7, hsplit,
    h9, h10, h11, h12, h13, h14, h15, h16, h17, h18, hc6, h19, h20, hc7, h21, h22, h23, hc8, h24, h25, h26, h27, hcall4, h29,
    h30, h31, h32, h33, h34, h35, hc9, h36, h37, hc10, h38, h39, h40, hc11, h41, h42, h43, h44, hcall5, h46⟩,
    h47, h48, h49, hc12, h50, h51, h52, h53, h54, hc13, h55, h56, h57, hc14, h58, h59, h60, h61, h62, h63, h64, h65, h66, h67, h68, h69,
    h70, h71, h72, h73, -⟩ := h
  have c3 : get φ.v3 W = fun _ => 0#32 := by
    rw [h3, hcl1, hcl0, hc2, hc3, ha1]; rfl
  have c5 : get φ.v5 W = fun _ => 100000#32 := by
    rw [h5, id, hcm1, hcm0, hc4, hc5, ha2]
    exact funext fun _ => (by decide : IntOp.minsi 2147483647#32 (IntOp.maxsi 2147483648#32 100000#32) = 100000#32)
  have c1 : get φ.v1 W = fun _ => 0#1 := by
    rw [h1, hclip1, hclip0, hc, hc0, hc1, ha2]
    exact funext fun _ => (by decide : IntOp.cmpi .sgt 100000#32
      (IntOp.minsi 2147483647#32 (IntOp.maxsi 2147483648#32 2147483647#32)) = 0#1)
  have c6 : get φ.v6 W = fun _ => 0#32 := by rw [h6, c3]; rfl
  have c7 : get φ.v7 W = fun _ => 100000#32 := by rw [h7, c5]; rfl
  have c51 : get φ.v51 W = fun _ => 100000#32 := by
    rw [h51, h49, h50, h48, h47, hc12, c6, c7]
    exact funext fun _ => (by decide : Scalar.select (IntOp.cmpi .sle 100000#32 0#32) 1#32 (IntOp.subi 100000#32 0#32) = 100000#32)
  have c54 : get φ.v54 W = fun _ => 0#1 := by
    rw [h54, h53, h52, c1, c6, c7]
    exact funext fun _ => (by decide : IntOp.andi 0#1 (IntOp.cmpi .sgt 100000#32 0#32) = 0#1)
  have c57 : get φ.v57 W = fun _ => 100000#32 := by
    rw [h57, c54, h56, c51]; rfl
  have c59 : get φ.v59 W = fun _ => 65536#32 := by
    rw [h59, c57, h58, hc14]
    exact funext fun _ => (by decide : IntOp.remui .host 65536#32 100000#32 = 65536#32)
  have c61 : get φ.v61 W = fun _ => 0#32 := by
    rw [h61, h60, c59, c57]
    exact funext fun _ => (by decide : IntOp.remui .host (IntOp.muli 65536#32 65536#32) 100000#32 = 0#32)
  have e46 : get φ.v46 W i = wordAt (get φ.v12 W) i := by
    rw [h46]
    refine draw _ _ _ _ _ _ W hcall5 i ?_ ?_ ?_ ?_
    · rw [h31, h30]; exact pair_word 0 _ _ _ _
    · rw [h33, h32]; exact pair_word 1 _ _ _ _
    · rw [h44, h42, h40, h37, h36, hc9, h34, h39, h38, hc10, h35, h41, hc11]; exact count_high _ _ _ _ _ _ _ i
    · rw [h43, h40, h37, h36, hc9, h34, h39, h38, hc10, h35]; exact count_low _ _ _ _ _ i
  have ek : (get φ.v12 W (ix1 0), get φ.v12 W (ix1 1)) = k := by
    rw [hk, h12, h11]
    refine Eq.trans ?_ (split2 _ _ W hsplit 1)
    exact congrArg₂ Prod.mk (row_word 1 0 _ _ _) (row_word 1 1 _ _ _)
  have ek0 : get φ.v12 W (ix1 0) = k.1 := congrArg Prod.fst ek
  have ek1 : get φ.v12 W (ix1 1) = k.2 := congrArg Prod.snd ek
  rw [wordAt, ek0, ek1] at e46
  rw [h73, h72, h71, h70, h69, h68, h67, h66, h65, h64, h63, h62, c57, c61, c6]
  generalize Threefry.word k.1 k.2 0#32 (BitVec.ofNat 32 (flat i)) = w at e46 ⊢
  have em : ∀ x : BitVec 32, IntOp.remui .host x 100000#32 = x % 100000#32 := fun x => if_neg (by decide)
  have ez : ∀ x : BitVec 32, 0#32 + (x * 0#32 + w % 100000#32) % 100000#32 = w % 100000#32 := fun x => by
    rw [BitVec.mul_zero, BitVec.zero_add, BitVec.zero_add]
    apply BitVec.eq_of_toNat_eq
    simp only [BitVec.toNat_umod, Nat.mod_mod]
  refine Eq.trans ?_ (ez (IntOp.remui .host (get φ.v29 W i) 100000#32))
  rw [← e46, ← em (get φ.v46 W i), ← em]
  rfl

end Cert.ReferenceIdeal.Value

end
-- ==== Proof.RefValue.lean ====
/-
  What the reference's two results hold, entry by entry, over `Ideal`.
-/
module

public import proofs.«01_k».proof.Proof.RefUniform
public import proofs.«01_k».proof.Proof.Masking

@[expose] public section

set_option maxHeartbeats 4000000
set_option maxRecDepth 20000

noncomputable section

namespace Cert.ReferenceIdeal.Value

open Idealize.ShloMosaic Idealize.ShloMosaic.StableHlo Idealize.SL.Sem Cert.Line Cert.ReferenceIdeal

variable [Facts]

/-- The words at an entry of a key whose two words are `k`. -/
theorem wordAt_of (x : S2.Idx → BitVec 32) (k : BitVec 32 × BitVec 32) (h : (x (ix1 0), x (ix1 1)) = k) (i : S128x2048.Idx) :
    wordAt x i = Masking.draw k (BitVec.ofNat 32 (flat i)) := by
  subst h; rfl

/-- A pair cut out of row `q` of a table holds the row. -/
theorem row_pair (v : S4x2.Idx → BitVec 32) (q : Fin 4) (h1 : S4x2.Slices ![q.val, 0] S1x2) (h2 : S1x2.ShapeCasts S2) (x : S2.Idx → BitVec 32)
    (hx : x = shapeCast S2 (extractStridedSlice S1x2 ![q.val, 0] v h1) h2) : (x (ix1 0), x (ix1 1)) = (v (ix2 q 0), v (ix2 q 1)) := by
  rw [hx]
  exact congrArg₂ Prod.mk (row_word q 0 _ _ _) (row_word q 1 _ _ _)

/-- The seed's key. -/
theorem seed (d : Dev nD) (W : Valuation τ sig (Elt Ideal)) (h : (lineMain d).eqn W) :
    get (.of main_v6 : TRef sig ⟨S2, .i32⟩) W (ix1 0) = 0#32 ∧ get (.of main_v6 : TRef sig ⟨S2, .i32⟩) W (ix1 1) = 42#32 := by
  simp only [lineMain, eqn_as, eqn_call, eqn_one, eqn_nil, eqn_binary, eqn_unary, eqn_nullary, eqn_reshape] at h
  obtain ⟨hc, hc0, h0, h1, h2, hc1, h3, h4, h5, h6, -⟩ := h
  have e : get (.of main_v6 : TRef sig ⟨S2, .i32⟩) W = concatenate S2 0 [⟨S1, at' main_v2 W⟩, ⟨S1, at' main_v5 W⟩]
    Facts₀.concatenates_S1_S1_S2_d0 := h6
  rw [e, h2, h1, h0, hc, hc0, h5, h4, h3, hc, hc1]
  constructor
  · rw [concatenate_pair_apply]
    exact dif_pos Nat.zero_lt_one
  · rw [concatenate_pair_apply]
    refine (dif_neg (Nat.lt_irrefl 1)).trans ?_
    exact (by decide : IntOp.andi 42#32 4294967295#32 = 42#32)

/-- The four keys. -/
theorem keys (d : Dev nD) (W : Valuation τ sig (Elt Ideal)) (h : (lineMain d).eqn W) (q : Fin 4) :
    (get (.of main_v7 : TRef sig ⟨S4x2, .i32⟩) W (ix2 q 0), get (.of main_v7 : TRef sig ⟨S4x2, .i32⟩) W (ix2 q 1)) =
      Masking.key (BitVec.ofNat 32 q.val) := by
  obtain ⟨s0, s1⟩ := seed d W h
  simp only [lineMain, eqn_as, eqn_call, eqn_one, eqn_nil, eqn_binary, eqn_unary, eqn_nullary, eqn_reshape] at h
  obtain ⟨-, -, -, -, -, -, -, -, -, -, hsplit, -⟩ := h
  have e := split4 _ _ W hsplit q
  rw [s0, s1] at e
  exact e

theorem results (d : Dev nD) (W : Valuation τ sig (Elt Ideal)) (h : (lineMain d).eqn W) (i : S128x2048.Idx)
    (x : BitVec 32) (hx : get (.of main_arg0 : TRef sig ⟨S128x2048, .i32⟩) W i = x)
    (sp : BitVec 1) (hsp : get (.of main_arg1 : TRef sig ⟨S128x2048, .i1⟩) W i = sp) :
    get (.of main_v28 : TRef sig ⟨S128x2048, .i32⟩) W i = Masking.token sp x (BitVec.ofNat 32 (flat i)) ∧
    get (.of main_v19 : TRef sig ⟨S128x2048, .i32⟩) W i = Masking.label sp x (BitVec.ofNat 32 (flat i)) := by
  have hk := keys d W h
  simp only [lineMain, lineWhere, lineWhere1, lineWhere3, lineWhere7, eqn_as, eqn_call, eqn_one, eqn_nil, eqn_binary, eqn_unary,
    eqn_nullary, eqn_reshape, eqn_tternary, eqn_tunary] at h
  obtain ⟨hc, hc0, h0, h1, h2, hc1, h3, h4, h5, h6, hsplit, h8, h9, h10, h11, h12, h13, h14, h15, hcst, hcst2, ⟨hw0, hw1, hw2, -⟩, h17,
    hber, hc3, ⟨hw10, hw11, -⟩, hcst4, hber2, h21, hc5, ⟨hw30, hw31, -⟩, hcst6, hber3, h24, h25, h26, hc7, hc8, hrand, ⟨hw7, -⟩, -⟩ := h
  have r0 := (row_pair _ 0 Facts₀.slices_S4x2_S1x2_0_0 Facts₀.shapeCasts_S1x2_S2 (get (.of main_v9 : TRef sig ⟨S2, .i32⟩) W)
    (by
      have e : get (.of main_v9 : TRef sig ⟨S2, .i32⟩) W = shapeCast S2 (at' main_v8 W) Facts₀.shapeCasts_S1x2_S2 := h9
      rw [e, h8]; rfl)).trans (hk 0)
  have r1 := (row_pair _ 1 Facts₀.slices_S4x2_S1x2_1_0 Facts₀.shapeCasts_S1x2_S2 (get (.of main_v11 : TRef sig ⟨S2, .i32⟩) W)
    (by
      have e : get (.of main_v11 : TRef sig ⟨S2, .i32⟩) W = shapeCast S2 (at' main_v10 W) Facts₀.shapeCasts_S1x2_S2 := h11
      rw [e, h10]; rfl)).trans (hk 1)
  have r2 := (row_pair _ 2 Facts₀.slices_S4x2_S1x2_2_0 Facts₀.shapeCasts_S1x2_S2 (get (.of main_v13 : TRef sig ⟨S2, .i32⟩) W)
    (by
      have e : get (.of main_v13 : TRef sig ⟨S2, .i32⟩) W = shapeCast S2 (at' main_v12 W) Facts₀.shapeCasts_S1x2_S2 := h13
      rw [e, h12]; rfl)).trans (hk 2)
  have r3 := (row_pair _ 3 Facts₀.slices_S4x2_S1x2_3_0 Facts₀.shapeCasts_S1x2_S2 (get (.of main_v15 : TRef sig ⟨S2, .i32⟩) W)
    (by
      have e : get (.of main_v15 : TRef sig ⟨S2, .i32⟩) W = shapeCast S2 (at' main_v14 W) Facts₀.shapeCasts_S1x2_S2 := h15
      rw [e, h14]; rfl)).trans (hk 3)
  have e16 : get (.of main_v17 : TRef sig ⟨S128x2048, .f32⟩) W i = Scalar.select sp (0 : EReal) (Ideal.ofBits .f32 1041865114#32) := by
    have e0 : get main_call1.v0 W i = Ideal.ofBits .f32 0#32 := by rw [hw0]; exact congrFun hcst _
    have e1 : get main_call1.v1 W i = Ideal.ofBits .f32 1041865114#32 := by rw [hw1]; exact congrFun hcst2 _
    refine (congrFun (h17.trans hw2) i).trans ?_
    show Scalar.select (get (.of main_arg1 : TRef sig ⟨S128x2048, .i1⟩) W i) (get main_call1.v0 W i) (get main_call1.v1 W i) = _
    rw [e0, e1, hsp, Ideal.ofBits_zero_f32]
  have e18 : get (.of main_v18 : TRef sig ⟨S128x2048, .i1⟩) W i = Masking.masked sp (BitVec.ofNat 32 (flat i)) := by
    refine (bernoulli _ _ _ W hber i).trans ?_
    rw [wordAt_of _ _ r0, e16]
    rcases bit_eq_zero_or_eq_one sp with h | h
    · subst h
      refine (Masking.below15 _).trans ?_
      exact (BitVec.and_allOnes (x := Masking.below 644245504#32 _)).symm
    · subst h
      refine (Masking.below0 _).trans ?_
      exact (BitVec.and_zero (x := Masking.below 644245504#32 _)).symm
  have e20 : get (.of main_v20 : TRef sig ⟨S128x2048, .i1⟩) W i = Masking.below 3435974144#32 (Masking.draw (Masking.key 1#32) (BitVec.ofNat 32 (flat i))) := by
    refine (bernoulli2 _ _ _ W hber2 i).trans ?_
    have e : get (.of main_cst_4 : TRef sig ⟨S_, .f32⟩) W ix0 = Ideal.ofBits .f32 1061997773#32 := congrFun hcst4 ix0
    rw [wordAt_of _ _ r1, e]
    exact Masking.below80 _
  have e23 : get (.of main_v23 : TRef sig ⟨S128x2048, .i1⟩) W i = Masking.below 2147483648#32 (Masking.draw (Masking.key 2#32) (BitVec.ofNat 32 (flat i))) := by
    refine (bernoulli2 _ _ _ W hber3 i).trans ?_
    have e : get (.of main_cst_6 : TRef sig ⟨S_, .f32⟩) W ix0 = Ideal.ofBits .f32 1056964608#32 := congrFun hcst6 ix0
    rw [wordAt_of _ _ r2, e]
    exact Masking.below50 _
  have e21 : get (.of main_v21 : TRef sig ⟨S128x2048, .i1⟩) W i = Masking.replaced sp (BitVec.ofNat 32 (flat i)) := by
    have e : get (.of main_v21 : TRef sig ⟨S128x2048, .i1⟩) W = andi (get (.of main_v20 : TRef sig ⟨S128x2048, .i1⟩) W) (get (.of main_v18 : TRef sig ⟨S128x2048, .i1⟩) W) := h21
    rw [e, andi, e20, e18]; rfl
  have e26 : get (.of main_v26 : TRef sig ⟨S128x2048, .i1⟩) W i = Masking.randomized sp (BitVec.ofNat 32 (flat i)) := by
    have e : get (.of main_v26 : TRef sig ⟨S128x2048, .i1⟩) W = andi (andi (get (.of main_v23 : TRef sig ⟨S128x2048, .i1⟩) W) (get (.of main_v18 : TRef sig ⟨S128x2048, .i1⟩) W))
        (noti (get (.of main_v21 : TRef sig ⟨S128x2048, .i1⟩) W)) := by
      refine Eq.trans h26 ?_; rw [h24, h25]; rfl
    rw [e, andi, andi, noti, e23, e18, e21]; rfl
  have e27 : get (.of main_v27 : TRef sig ⟨S128x2048, .i32⟩) W i = Masking.draw Masking.tokenKey (BitVec.ofNat 32 (flat i)) % 100000#32 := by
    refine randint _ _ _ _ W hrand hc7 hc8 i Masking.tokenKey ?_
    rw [Masking.tokenKey]
    exact (congrArg (fun k : BitVec 32 × BitVec 32 => Threefry.block k.1 k.2 0#32 1#32) r3).symm
  have e22 : get (.of main_v22 : TRef sig ⟨S128x2048, .i32⟩) W i = Scalar.select (Masking.replaced sp (BitVec.ofNat 32 (flat i))) 4#32 x := by
    have e : get main_call5.v0 W i = 4#32 := by rw [hw30]; exact congrFun hc5 _
    refine (congrFun hw31 i).trans ?_
    show Scalar.select (get (.of main_v21 : TRef sig ⟨S128x2048, .i1⟩) W i) (get main_call5.v0 W i)
      (get (.of main_arg0 : TRef sig ⟨S128x2048, .i32⟩) W i) = _
    rw [e, e21, hx]
  constructor
  · refine (congrFun hw7 i).trans ?_
    show Scalar.select (get (.of main_v26 : TRef sig ⟨S128x2048, .i1⟩) W i)
      (get (.of main_v27 : TRef sig ⟨S128x2048, .i32⟩) W i) (get (.of main_v22 : TRef sig ⟨S128x2048, .i32⟩) W i) = _
    rw [e26, e27, e22]; rfl
  · have e : get main_call3.v0 W i = 4294967196#32 := by rw [hw10]; exact congrFun hc3 _
    refine (congrFun hw11 i).trans ?_
    show Scalar.select (get (.of main_v18 : TRef sig ⟨S128x2048, .i1⟩) W i)
      (get (.of main_arg0 : TRef sig ⟨S128x2048, .i32⟩) W i) (get main_call3.v0 W i) = _
    rw [e, e18, hx]; rfl

end Cert.ReferenceIdeal.Value

end
-- ==== Proof.Equation.lean ====
/-
  The equation: from the same ids and special-token bits the kernel and the reference leave the same two arrays.
-/
module

public import proofs.«01_k».proof.Defs
public import proofs.«01_k».proof.Proof.Gen.KernelIdeal
public import proofs.«01_k».proof.Proof.Gen.ReferenceIdeal
public import proofs.«01_k».proof.Proof.KernelArray
public import proofs.«01_k».proof.Proof.RefRun
public import proofs.«01_k».proof.Proof.RefValue

@[expose] public section

noncomputable section

namespace Cert.ReferenceIdeal.Value

open Idealize.ShloMosaic Idealize.SL.Sem Cert.Line Cert.ReferenceIdeal

variable [Facts]

/-- The reference's run with its two results at the masking of the arguments. -/
theorem run_masking (m : (ℓ : Loc nD τ sig) → Buf (Elt Ideal) ℓ) (ρ : Dev nD → PrngReg)
    (x : Dev nD → S128x2048.Idx → BitVec 32) (hx : ∀ d : Dev nD, m ((d.tc : Thread nD τ).loc main_arg0) = x d)
    (sp : Dev nD → S128x2048.Idx → BitVec 1) (hsp : ∀ d : Dev nD, m ((d.tc : Thread nD τ).loc main_arg1) = sp d) :
    θ_run (defs (F := Ideal)) (onTc (τ := τ) (main (F := Ideal))) ⟨m, fun _ => 0, ρ⟩ fun r => ∀ d : Dev nD,
      r.2.mem ((d.tc : Thread nD τ).loc main_v28)
        = (fun i : S128x2048.Idx => Masking.token (sp d i) (x d i) (BitVec.ofNat 32 (flat i))) ∧
      r.2.mem ((d.tc : Thread nD τ).loc main_v19)
        = (fun i : S128x2048.Idx => Masking.label (sp d i) (x d i) (BitVec.ofNat 32 (flat i))) ∧
      r.2.mem ((d.tc : Thread nD τ).loc main_arg0) = m ((d.tc : Thread nD τ).loc main_arg0) ∧
      r.2.mem ((d.tc : Thread nD τ).loc main_arg1) = m ((d.tc : Thread nD τ).loc main_arg1) := by
  refine θ_run_mono (run m ρ) fun r hr d => ?_
  obtain ⟨W, hW, hb, hk⟩ := hr d
  have k0 := hk main_arg0 (by decide)
  have k1 := hk main_arg1 (by decide)
  have h : ∀ i : S128x2048.Idx, _ := fun i =>
    results d W hW i (x d i) (congrFun (k0.trans (hx d)) i) (sp d i) (congrFun (k1.trans (hsp d)) i)
  exact ⟨(hb main_v28).trans (funext fun i => (h i).1), (hb main_v19).trans (funext fun i => (h i).2),
    (hb main_arg0).trans k0, (hb main_arg1).trans k1⟩

end Cert.ReferenceIdeal.Value

namespace Cert.Proof

open Idealize.ShloMosaic Idealize.ShloMosaic.TcCoe Idealize.SL.Sem
open Cert.KernelIdeal.Words

theorem algebraic : Cert.algebraic_KernelIdeal_ReferenceIdeal (hKernelIdeal := Cert.KernelIdeal.Gen.facts)
    (hReferenceIdeal := Cert.ReferenceIdeal.Gen.facts) := by
  intro m g m' g' _ heq
  refine ⟨fun c => tokens (ids m c) (bits m c), fun c => labels (ids m c) (bits m c), ?_, ?_⟩
  · refine (θ_run _ _ _).mono (fun r h c => ?_) (Cert.KernelIdeal.Value.run_blocks (F := Ideal) m g)
    obtain ⟨h0, h1, h2, h3⟩ := h c
    exact ⟨h0.trans (final_tokens m c), h1.trans (final_labels m c), h2, h3⟩
  · exact Cert.ReferenceIdeal.Value.run_masking m' g' (fun c => ids m c) (fun c => (heq c).1) (fun c => bits m c)
      (fun c => (heq c).2)

end Cert.Proof

end
-- ==== Proof.lean ====
/-
  The certificate: the frames of the three programs, the idealization, and the equation of the kernel's results with the
  reference's (`Equation.lean`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

namespace Cert.Proof

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Value.quiescent m ρ, trivial, algebraic⟩

end Cert.Proof
